-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "done" .f32 0xC2B00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v78) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)) (v4 : (c : Dev Cert.Kernel7Ideal.nD) → Buf (Elt Ideal) ((c.tc : Thread Cert.Kernel7Ideal.nD Cert.Kernel7Ideal.τ).loc Cert.Kernel7Ideal.main_v14_4)) (v5 : (c : Dev Cert.Kernel7Ideal.nD) → Buf (Elt Ideal) ((c.tc : Thread Cert.Kernel7Ideal.nD Cert.Kernel7Ideal.τ).loc Cert.Kernel7Ideal.main_v14_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_v14_4) = v4 c
          ∧ r.2.mem ((c.tc : Thread Cert.Kernel7Ideal.nD Cert.Kernel7Ideal.τ).loc Cert.Kernel7Ideal.main_v14_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_v69) = v1 c
          ∧ r.2.mem ((c.tc : Thread Cert.Reference7Ideal.nD Cert.Reference7Ideal.τ).loc Cert.Reference7Ideal.main_v70) = v2 c
          ∧ r.2.mem ((c.tc : Thread Cert.Reference7Ideal.nD Cert.Reference7Ideal.τ).loc Cert.Reference7Ideal.main_v48) = v3 c
          ∧ r.2.mem ((c.tc : Thread Cert.Reference7Ideal.nD Cert.Reference7Ideal.τ).loc Cert.Reference7Ideal.main_v71) = v4 c
          ∧ r.2.mem ((c.tc : Thread Cert.Reference7Ideal.nD Cert.Reference7Ideal.τ).loc Cert.Reference7Ideal.main_v72) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x3072 : Shape := ⟨2, ![16384, 3072]⟩
abbrev S16384x1024 : Shape := ⟨2, ![16384, 1024]⟩
abbrev S512x128 : Shape := ⟨2, ![512, 128]⟩
abbrev S16384x128 : Shape := ⟨2, ![16384, 128]⟩
abbrev S8x128x128 : Shape := ⟨3, ![8, 128, 128]⟩
abbrev S1x128 : Shape := ⟨2, ![1, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x128x128 : Shape := ⟨3, ![1, 128, 128]⟩
abbrev S128x1 : Shape := ⟨2, ![128, 1]⟩
abbrev S2x128x128 : Shape := ⟨3, ![2, 128, 128]⟩
abbrev S1x2x128x128 : Shape := ⟨4, ![1, 2, 128, 128]⟩
abbrev S1 : Shape := ⟨1, ![1]⟩
abbrev S1x1x1x1 : Shape := ⟨4, ![1, 1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S8x128x128, .f32⟩
  | .local _ .vmem, ⟨9, _⟩ => ⟨S8x128x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c4_i32 : BitVec 32 := 4#32
  let v114 : BitVec 32 := Scalar.muli arg1 c4_i32
  let c0_i32 : BitVec 32 := 0#32
  let v115 : BitVec 32 := Scalar.addi v114 c0_i32
  let c1_i32 : BitVec 32 := 1#32
  let v116 : BitVec 32 := Scalar.addi v115 c1_i32
  let c128_i32 : BitVec 32 := 128#32
  let v117 : BitVec 32 := Scalar.muli v116 c128_i32
  let c0_i32_68 : BitVec 32 := 0#32
  let v138 : BitVec 32 := Scalar.subi v117 c0_i32_68
  let c256_i32 : BitVec 32 := 256#32
  let v139 : BitVec 32 := Scalar.subi v138 c256_i32
  let c0_i32_69 : BitVec 32 := 0#32
  let v140 : BitVec 32 := Scalar.maxsi v139 c0_i32_69
  v140
def k0_off1 (i : grid0.Coords) (c0_i32 : BitVec 32) : Fin 2 → Nat :=
  let arg1 : BitVec 32 := BitVec.ofNat 32 (i 1).val
  let c4_i32 : BitVec 32 := 4#32
  let v114 : BitVec 32 := Scalar.muli arg1 c4_i32
  let v115 : BitVec 32 := Scalar.addi v114 c0_i32
  let c1_i32 : BitVec 32 := 1#32
  let v116 : BitVec 32 := Scalar.addi v115 c1_i32
  let c128_i32 : BitVec 32 := 128#32
  let v117 : BitVec 32 := Scalar.muli v116 c128_i32
  let c0_i32_68 : BitVec 32 := 0#32
  let v138 : BitVec 32 := Scalar.subi v117 c0_i32_68
  let c256_i32 : BitVec 32 := 256#32
  let v139 : BitVec 32 := Scalar.subi v138 c256_i32
  let c0_i32_69 : BitVec 32 := 0#32
  let v140 : BitVec 32 := Scalar.maxsi v139 c0_i32_69
  let v141 : BitVec 32 := v140
  let v142 : Index := Scalar.indexCast v141
  let c0_70 : Index := 0#32
  ![v142.toNat, 0]
def k0_mult2 (i : grid0.Coords) : BitVec 32 :=
  let arg1 : BitVec 32 := BitVec.ofNat 32 (i 1).val
  let c4_i32_50 : BitVec 32 := 4#32
  let v118 : BitVec 32 := Scalar.muli arg1 c4_i32_50
  let c1_i32_51 : BitVec 32 := 1#32
  let v119 : BitVec 32 := Scalar.addi v118 c1_i32_51
  let c1_i32_52 : BitVec 32 := 1#32
  let v120 : BitVec 32 := Scalar.addi v119 c1_i32_52
  let c128_i32_53 : BitVec 32 := 128#32
  let v121 : BitVec 32 := Scalar.muli v120 c128_i32_53
  let c0_i32_73 : BitVec 32 := 0#32
  let v154 : BitVec 32 := Scalar.subi v121 c0_i32_73
  let c256_i32_74 : BitVec 32 := 256#32
  let v155 : BitVec 32 := Scalar.subi v154 c256_i32_74
  let c0_i32_75 : BitVec 32 := 0#32
  let v156 : BitVec 32 := Scalar.maxsi v155 c0_i32_75
  v156
def k0_mult3 (i : grid0.Coords) : BitVec 32 :=
  let arg1 : BitVec 32 := BitVec.ofNat 32 (i 1).val
  let c4_i32_54 : BitVec 32 := 4#32
  let v122 : BitVec 32 := Scalar.muli arg1 c4_i32_54
  let c2_i32 : BitVec 32 := 2#32
  let v123 : BitVec 32 := Scalar.addi v122 c2_i32
  let c1_i32_55 : BitVec 32 := 1#32
  let v124 : BitVec 32 := Scalar.addi v123 c1_i32_55
  let c128_i32_56 : BitVec 32 := 128#32
  let v125 : BitVec 32 := Scalar.muli v124 c128_i32_56
  let c0_i32_79 : BitVec 32 := 0#32
  let v170 : BitVec 32 := Scalar.subi v125 c0_i32_79
  let c256_i32_80 : BitVec 32 := 256#32
  let v171 : BitVec 32 := Scalar.subi v170 c256_i32_80
  let c0_i32_81 : BitVec 32 := 0#32
  let v172 : BitVec 32 := Scalar.maxsi v171 c0_i32_81
  v172
def k0_mult4 (i : grid0.Coords) : BitVec 32 :=
  let arg1 : BitVec 32 := BitVec.ofNat 32 (i 1).val
  let c4_i32_57 : BitVec 32 := 4#32
  let v126 : BitVec 32 := Scalar.muli arg1 c4_i32_57
  let c3_i32 : BitVec 32 := 3#32
  let v127 : BitVec 32 := Scalar.addi v126 c3_i32
  let c1_i32_58 : BitVec 32 := 1#32
  let v128 : BitVec 32 := Scalar.addi v127 c1_i32_58
  let c128_i32_59 : BitVec 32 := 128#32
  let v129 : BitVec 32 := Scalar.muli v128 c128_i32_59
  let c0_i32_85 : BitVec 32 := 0#32
  let v186 : BitVec 32 := Scalar.subi v129 c0_i32_85
  let c256_i32_86 : BitVec 32 := 256#32
  let v187 : BitVec 32 := Scalar.subi v186 c256_i32_86
  let c0_i32_87 : BitVec 32 := 0#32
  let v188 : BitVec 32 := Scalar.maxsi v187 c0_i32_87
  v188
def k0_mult5 (i : grid0.Coords) (arg8 : BitVec 32) : BitVec 32 :=
  let arg1 : BitVec 32 := BitVec.ofNat 32 (i 1).val
  let c4_i32 : BitVec 32 := 4#32
  let v114 : BitVec 32 := Scalar.muli arg1 c4_i32
  let c0_i32 : BitVec 32 := 0#32
  let v115 : BitVec 32 := Scalar.addi v114 c0_i32
  let c1_i32 : BitVec 32 := 1#32
  let v116 : BitVec 32 := Scalar.addi v115 c1_i32
  let c128_i32 : BitVec 32 := 128#32
  let v117 : BitVec 32 := Scalar.muli v116 c128_i32
  let c256_i32_289 : BitVec 32 := 256#32
  let v591 : BitVec 32 := Scalar.muli arg8 c256_i32_289
  let v592 : BitVec 32 := Scalar.subi v117 v591
  let c256_i32_290 : BitVec 32 := 256#32
  let v593 : BitVec 32 := Scalar.subi v592 c256_i32_290
  let c0_i32_291 : BitVec 32 := 0#32
  let v594 : BitVec 32 := Scalar.maxsi v593 c0_i32_291
  v594

def k0_off2 (i : grid0.Coords) (arg8 : BitVec 32) (c0_i32 : BitVec 32) : Fin 2 → Nat :=
  let arg1 : BitVec 32 := BitVec.ofNat 32 (i 1).val
  let c4_i32 : BitVec 32 := 4#32
  let v114 : BitVec 32 := Scalar.muli arg1 c4_i32
  let v115 : BitVec 32 := Scalar.addi v114 c0_i32
  let c1_i32 : BitVec 32 := 1#32
  let v116 : BitVec 32 := Scalar.addi v115 c1_i32
  let c128_i32 : BitVec 32 := 128#32
  let v117 : BitVec 32 := Scalar.muli v116 c128_i32
  let c256_i32_289 : BitVec 32 := 256#32
  let v591 : BitVec 32 := Scalar.muli arg8 c256_i32_289
  let v592 : BitVec 32 := Scalar.subi v117 v591
  let c256_i32_290 : BitVec 32 := 256#32
  let v593 : BitVec 32 := Scalar.subi v592 c256_i32_290
  let c0_i32_291 : BitVec 32 := 0#32
  let v594 : BitVec 32 := Scalar.maxsi v593 c0_i32_291
  let v595 : BitVec 32 := v594
  let v596 : Index := Scalar.indexCast v595
  let c0_292 : Index := 0#32
  ![v596.toNat, 0]
def k0_mult6 (i : grid0.Coords) (arg8 : BitVec 32) : BitVec 32 :=
  let arg1 : BitVec 32 := BitVec.ofNat 32 (i 1).val
  let c4_i32_50 : BitVec 32 := 4#32
  let v118 : BitVec 32 := Scalar.muli arg1 c4_i32_50
  let c1_i32_51 : BitVec 32 := 1#32
  let v119 : BitVec 32 := Scalar.addi v118 c1_i32_51
  let c1_i32_52 : BitVec 32 := 1#32
  let v120 : BitVec 32 := Scalar.addi v119 c1_i32_52
  let c128_i32_53 : BitVec 32 := 128#32
  let v121 : BitVec 32 := Scalar.muli v120 c128_i32_53
  let c256_i32_295 : BitVec 32 := 256#32
  let v608 : BitVec 32 := Scalar.muli arg8 c256_i32_295
  let v609 : BitVec 32 := Scalar.subi v121 v608
  let c256_i32_296 : BitVec 32 := 256#32
  let v610 : BitVec 32 := Scalar.subi v609 c256_i32_296
  let c0_i32_297 : BitVec 32 := 0#32
  let v611 : BitVec 32 := Scalar.maxsi v610 c0_i32_297
  v611
def k0_mult7 (i : grid0.Coords) (arg8 : BitVec 32) : BitVec 32 :=
  let arg1 : BitVec 32 := BitVec.ofNat 32 (i 1).val
  let c4_i32_54 : BitVec 32 := 4#32
  let v122 : BitVec 32 := Scalar.muli arg1 c4_i32_54
  let c2_i32 : BitVec 32 := 2#32
  let v123 : BitVec 32 := Scalar.addi v122 c2_i32
  let c1_i32_55 : BitVec 32 := 1#32
  let v124 : BitVec 32 := Scalar.addi v123 c1_i32_55
  let c128_i32_56 : BitVec 32 := 128#32
  let v125 : BitVec 32 := Scalar.muli v124 c128_i32_56
  let c256_i32_301 : BitVec 32 := 256#32
  let v625 : BitVec 32 := Scalar.muli arg8 c256_i32_301
  let v626 : BitVec 32 := Scalar.subi v125 v625
  let c256_i32_302 : BitVec 32 := 256#32
  let v627 : BitVec 32 := Scalar.subi v626 c256_i32_302
  let c0_i32_303 : BitVec 32 := 0#32
  let v628 : BitVec 32 := Scalar.maxsi v627 c0_i32_303
  v628
def k0_mult8 (i : grid0.Coords) (arg8 : BitVec 32) : BitVec 32 :=
  let arg1 : BitVec 32 := BitVec.ofNat 32 (i 1).val
  let c4_i32_57 : BitVec 32 := 4#32
  let v126 : BitVec 32 := Scalar.muli arg1 c4_i32_57
  let c3_i32 : BitVec 32 := 3#32
  let v127 : BitVec 32 := Scalar.addi v126 c3_i32
  let c1_i32_58 : BitVec 32 := 1#32
  let v128 : BitVec 32 := Scalar.addi v127 c1_i32_58
  let c128_i32_59 : BitVec 32 := 128#32
  let v129 : BitVec 32 := Scalar.muli v128 c128_i32_59
  let c256_i32_307 : BitVec 32 := 256#32
  let v642 : BitVec 32 := Scalar.muli arg8 c256_i32_307
  let v643 : BitVec 32 := Scalar.subi v129 v642
  let c256_i32_308 : BitVec 32 := 256#32
  let v644 : BitVec 32 := Scalar.subi v643 c256_i32_308
  let c0_i32_309 : BitVec 32 := 0#32
  let v645 : BitVec 32 := Scalar.maxsi v644 c0_i32_309
  v645

def k0_chk1 (i : grid0.Coords) (arg8 : BitVec 32) : Prop :=
  (128 ∣ (k0_mult5 i arg8).toNat) ∧
  (∀ (r : Fin 4), ∀ a, (k0_off2 i arg8 (BitVec.ofNat 32 r.val)) a + S256x128.size a ≤ S16384x128.size a) ∧
  (128 ∣ (k0_mult6 i arg8).toNat) ∧
  (128 ∣ (k0_mult7 i arg8).toNat) ∧
  (128 ∣ (k0_mult8 i arg8).toNat)
theorem k0_mult5_dvd : ∀ (i : grid0.Coords) (arg8 : BitVec 32) (k0_hw1 : k0_chk1 i arg8), 128 ∣ (k0_mult5 i arg8).toNat := fun i arg8 k0_hw1 => k0_hw1.1
theorem k0_off2_inb : ∀ (i : grid0.Coords) (arg8 : BitVec 32) (k0_hw1 : k0_chk1 i arg8), ∀ (r : Fin 4), ∀ a, (k0_off2 i arg8 (BitVec.ofNat 32 r.val)) a + S256x128.size a ≤ S16384x128.size a := fun i arg8 k0_hw1 r => k0_hw1.2.1 r
theorem k0_mult6_dvd : ∀ (i : grid0.Coords) (arg8 : BitVec 32) (k0_hw1 : k0_chk1 i arg8), 128 ∣ (k0_mult6 i arg8).toNat := fun i arg8 k0_hw1 => k0_hw1.2.2.1
theorem k0_mult7_dvd : ∀ (i : grid0.Coords) (arg8 : BitVec 32) (k0_hw1 : k0_chk1 i arg8), 128 ∣ (k0_mult7 i arg8).toNat := fun i arg8 k0_hw1 => k0_hw1.2.2.2.1
theorem k0_mult8_dvd : ∀ (i : grid0.Coords) (arg8 : BitVec 32) (k0_hw1 : k0_chk1 i arg8), 128 ∣ (k0_mult8 i arg8).toNat := fun i arg8 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "done" => some ⊥
  | _ => none
-- ==== ReferenceIdeal.lean ====
abbrev S16384x3072 : Shape := ⟨2, ![16384, 3072]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 74
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x16x64, .f32⟩
  | .hbm, ⟨8, _⟩ => ⟨S16x16384x64, .f32⟩
  | .hbm, ⟨9, _⟩ => ⟨S16384x16x64, .f32⟩
  | .hbm, ⟨10, _⟩ => ⟨S16x16384x64, .f32⟩
  | .hbm, ⟨11, _⟩ => ⟨S16x16384x16384, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S16x16384x16384, .f32⟩
  | .hbm, ⟨22, _⟩ => ⟨S16x16384x16384, .f32⟩
  | .hbm, ⟨23, _⟩ => ⟨S_, .f32⟩
  | .hbm, ⟨24, _⟩ => ⟨S16x16384x16384, .f32⟩
  | .hbm, ⟨25, _⟩ => ⟨S16x16384x16384, .f32⟩
  | .hbm, ⟨26, _⟩ => ⟨S16x16384x16384, .f32⟩
  | .hbm, ⟨27, _⟩ => ⟨S16x16384x16384, .f32⟩
  | .hbm, ⟨28, _⟩ => ⟨S16x16384x16384, .i1⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S16x16384x16384, .f32⟩
  | .hbm, ⟨36, _⟩ => ⟨S16x16384x16384, .f32⟩
  | .hbm, ⟨37, _⟩ => ⟨S16x16384x16384, .f32⟩
  | .hbm, ⟨38, _⟩ => ⟨S_, .f32⟩
  | .hbm, ⟨39, _⟩ => ⟨S_, .f32⟩
  | .hbm, ⟨40, _⟩ => ⟨S16x16384x16384, .i1⟩
  | .hbm, ⟨41, _⟩ => ⟨S16x16384x16384, .f32⟩
  | .hbm, ⟨42, _⟩ => ⟨S16x16384x16384, .f32⟩
  | .hbm, ⟨43, _⟩ => ⟨S_, .f32⟩
  | .hbm, ⟨44, _⟩ => ⟨S_, .f32⟩
  | .hbm, ⟨45, _⟩ => ⟨S16x16384x16384, .f32⟩
  | .hbm, ⟨46, _⟩ => ⟨S16x16384x16384, .f32⟩
  | .hbm, ⟨47, _⟩ => ⟨S16x16384x16384, .f32⟩
  | .hbm, ⟨48, _⟩ => ⟨S_, .f32⟩
  | .hbm, ⟨49, _⟩ => ⟨S16x16384x16384, .f32⟩
  | .hbm, ⟨50, _⟩ => ⟨S16x16384x16384, .f32⟩
  | .hbm, ⟨51, _⟩ => ⟨S16x16384x16384, .f32⟩
  | .hbm, ⟨52, _⟩ => ⟨S16x16384x16384, .f32⟩
  | .hbm, ⟨53, _⟩ => ⟨S16x16384x16384, .i1⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S16x16384x16384, .f32⟩
  | .hbm, ⟨58, _⟩ => ⟨S16x16384x16384, .f32⟩
  | .hbm, ⟨59, _⟩ => ⟨S16x16384x16384, .f32⟩
  | .hbm, ⟨60, _⟩ => ⟨S16x16384x16384, .f32⟩
  | .hbm, ⟨61, _⟩ => ⟨S16x16384x16384, .f32⟩
  | .hbm, ⟨62, _⟩ => ⟨S16x16384x16384, .f32⟩
  | .hbm, ⟨63, _⟩ => ⟨S16x16384x16384, .f32⟩
  | .hbm, ⟨64, _⟩ => ⟨S16x16384x16384, .f32⟩
  | .hbm, ⟨65, _⟩ => ⟨S_, .f32⟩
  | .hbm, ⟨66, _⟩ => ⟨S_, .f32⟩
  | .hbm, ⟨67, _⟩ => ⟨S16x16384x16384, .i1⟩
  | .hbm, ⟨68, _⟩ => ⟨S16x16384x16384, .f32⟩
  | .hbm, ⟨69, _⟩ => ⟨S16x16384x16384, .f32⟩
  | .hbm, ⟨70, _⟩ => ⟨S16x16384x64, .f32⟩
  | .hbm, ⟨71, _⟩ => ⟨S16384x16x64, .f32⟩
  | .hbm, ⟨72, _⟩ => ⟨S16384x1024, .f32⟩
  | .hbm, ⟨73, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel2.lean ====
abbrev S16384x2048 : Shape := ⟨2, ![16384, 2048]⟩
abbrev S2048x11264 : Shape := ⟨2, ![2048, 11264]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x11264 : Shape := ⟨2, ![2048, 11264]⟩
abbrev S16384x11264 : Shape := ⟨2, ![16384, 11264]⟩
abbrev S16384x3072 : Shape := ⟨2, ![16384, 3072]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x11264, .f32⟩
  | .hbm, ⟨3, _⟩ => ⟨S16384x3072, .f32⟩
  | .hbm, ⟨4, _⟩ => ⟨S16384x8192, .f32⟩
  | .hbm, ⟨5, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x2048 : Shape := ⟨2, ![16384, 2048]⟩
abbrev S2048x11264 : Shape := ⟨2, ![2048, 11264]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x11264 : Shape := ⟨2, ![2048, 11264]⟩
abbrev S16384x11264 : Shape := ⟨2, ![16384, 11264]⟩
abbrev S16384x3072 : Shape := ⟨2, ![16384, 3072]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x11264, .f32⟩
  | .hbm, ⟨3, _⟩ => ⟨S16384x3072, .f32⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x2048 : Shape := ⟨2, ![16384, 2048]⟩
abbrev S2048x11264 : Shape := ⟨2, ![2048, 11264]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x11264 : Shape := ⟨2, ![2048, 11264]⟩
abbrev S16384x11264 : Shape := ⟨2, ![16384, 11264]⟩
abbrev S16384x7168 : Shape := ⟨2, ![16384, 7168]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S16384x11264, .f32⟩
  | .hbm, ⟨3, _⟩ => ⟨S16384x7168, .f32⟩
  | .hbm, ⟨4, _⟩ => ⟨S16384x4096, .f32⟩
  | .hbm, ⟨5, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x2048 : Shape := ⟨2, ![16384, 2048]⟩
abbrev S16384x256 : Shape := ⟨2, ![16384, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S16384x2048, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x256, .f32⟩
  | .local _ .vmem, ⟨7, _⟩ => ⟨S512x256, .f32⟩
  | .local _ .vmem, ⟨8, _⟩ => ⟨S2048x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x2048 : Shape := ⟨2, ![16384, 2048]⟩
abbrev S16384x256 : Shape := ⟨2, ![16384, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel6.lean ====
abbrev S16384x1024 : Shape := ⟨2, ![16384, 1024]⟩
abbrev S16384x4096 : Shape := ⟨2, ![16384, 4096]⟩
abbrev S16384x2048 : Shape := ⟨2, ![16384, 2048]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S256x1024 : Shape := ⟨2, ![256, 1024]⟩
abbrev S256x4096 : Shape := ⟨2, ![256, 4096]⟩
abbrev S256x2048 : Shape := ⟨2, ![256, 2048]⟩
abbrev S128x128 : Shape := ⟨2, ![128, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 22
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S16384x2048, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S1x1024, .f32⟩
  | .hbm, ⟨17, _⟩ => ⟨S1x1024, .f32⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1x1024, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S16384x1024 : Shape := ⟨2, ![16384, 1024]⟩
abbrev S16384x4096 : Shape := ⟨2, ![16384, 4096]⟩
abbrev S16384x2048 : Shape := ⟨2, ![16384, 2048]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1024 : Shape := ⟨2, ![1, 1024]⟩
abbrev S16384 : Shape := ⟨1, ![16384]⟩
abbrev S16384x1 : Shape := ⟨2, ![16384, 1]⟩
abbrev S1x2048 : Shape := ⟨2, ![1, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S16384x2048, .f32⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x4096, .f32⟩
  | .hbm, ⟨17, _⟩ => ⟨S16384x16x64, .f32⟩
  | .hbm, ⟨18, _⟩ => ⟨S_, .f32⟩
  | .hbm, ⟨19, _⟩ => ⟨S16384x16, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S16384x16x64, .f32⟩
  | .hbm, ⟨25, _⟩ => ⟨S16384x16x64, .f32⟩
  | .hbm, ⟨26, _⟩ => ⟨S16384x16x64, .f32⟩
  | .hbm, ⟨27, _⟩ => ⟨S_, .f32⟩
  | .hbm, ⟨28, _⟩ => ⟨S16384x16, .f32⟩
  | .hbm, ⟨29, _⟩ => ⟨S16384x16x1, .f32⟩
  | .hbm, ⟨30, _⟩ => ⟨S_, .f32⟩
  | .hbm, ⟨31, _⟩ => ⟨S16384x16x1, .f32⟩
  | .hbm, ⟨32, _⟩ => ⟨S16384x16x1, .f32⟩
  | .hbm, ⟨33, _⟩ => ⟨S16384x16x64, .f32⟩
  | .hbm, ⟨34, _⟩ => ⟨S16384x16x64, .f32⟩
  | .hbm, ⟨35, _⟩ => ⟨S_, .f32⟩
  | .hbm, ⟨36, _⟩ => ⟨S16384x16x1, .f32⟩
  | .hbm, ⟨37, _⟩ => ⟨S16384x16x1, .f32⟩
  | .hbm, ⟨38, _⟩ => ⟨S16384x16x1, .f32⟩
  | .hbm, ⟨39, _⟩ => ⟨S16384x16x64, .f32⟩
  | .hbm, ⟨40, _⟩ => ⟨S16384x16x64, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x2048, .f32⟩
  | .hbm, ⟨100, _⟩ => ⟨S16384x2048, .f32⟩
  | .hbm, ⟨101, _⟩ => ⟨S1x2048, .f32⟩
  | .hbm, ⟨102, _⟩ => ⟨S16384x2048, .f32⟩
  | .hbm, ⟨103, _⟩ => ⟨S16384x2048, .f32⟩
  | .hbm, ⟨104, _⟩ => ⟨S1x2048, .f32⟩
  | .hbm, ⟨105, _⟩ => ⟨S16384x2048, .f32⟩
  | .hbm, ⟨106, _⟩ => ⟨S16384x2048, .f32⟩
  | .hbm, ⟨107, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel7.lean ====
abbrev S16384x4096 : Shape := ⟨2, ![16384, 4096]⟩
abbrev S6x1024 : Shape := ⟨2, ![6, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S1024x128 : Shape := ⟨2, ![1024, 128]⟩
abbrev S128x1024 : Shape := ⟨2, ![128, 1024]⟩
abbrev S1024x256 : Shape := ⟨2, ![1024, 256]⟩
abbrev S256x1024 : Shape := ⟨2, ![256, 1024]⟩
abbrev S1x1024 : Shape := ⟨2, ![1, 1024]⟩
abbrev S16384x1024 : Shape := ⟨2, ![16384, 1024]⟩
abbrev S256x4096 : Shape := ⟨2, ![256, 4096]⟩
abbrev S16x4096 : Shape := ⟨2, ![16, 4096]⟩
abbrev S256x128 : Shape := ⟨2, ![256, 128]⟩
abbrev S256x256 : Shape := ⟨2, ![256, 256]⟩

abbrev nBuf : Space → Nat
  | .hbm => 42
  | .vmem => 25
  | .smem => 0
  | _ => 0

abbrev bufTy : (tb : Table) → Fin (tcTables nBuf tb) → BufTy
  | .hbm, ⟨0, _⟩ => ⟨S16384x4096, .bf16⟩
  | .hbm, ⟨1, _⟩ => ⟨S6x1024, .f32⟩
  | .hbm, ⟨2, _⟩ => ⟨S1024, .f32⟩
  | .hbm, ⟨3, _⟩ => ⟨S1024x64, .f32⟩
  | .hbm, ⟨4, _⟩ => ⟨S64x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024x160, .f32⟩
  | .hbm, ⟨9, _⟩ => ⟨S160x1024, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128x1024, .f32⟩
  | .hbm, ⟨17, _⟩ => ⟨S128x1024, .bf16⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S_, .i32⟩
  | .hbm, ⟨23, _⟩ => ⟨S_, .f32⟩
  | .hbm, ⟨24, _⟩ => ⟨S128x1024, .f32⟩
  | .hbm, ⟨25, _⟩ => ⟨S128x1024, .bf16⟩
  | .hbm, ⟨26, _⟩ => ⟨S_, .i32⟩
  | .hbm, ⟨27, _⟩ => ⟨S_, .f32⟩
  | .hbm, ⟨28, _⟩ => ⟨S1024x256, .f32⟩
  | .hbm, ⟨29, _⟩ => ⟨S1024x256, .bf16⟩
  | .hbm, ⟨30, _⟩ => ⟨S_, .i32⟩
  | .hbm, ⟨31, _⟩ => ⟨S_, .f32⟩
  | .hbm, ⟨32, _⟩ => ⟨S256x1024, .f32⟩
  | .hbm, ⟨33, _⟩ => ⟨S256x1024, .bf16⟩
  | .hbm, ⟨34, _⟩ => ⟨S1x1024, .f32⟩
  | .hbm, ⟨35, _⟩ => ⟨S1x1024, .f32⟩
  | .hbm, ⟨36, _⟩ => ⟨S16384x1024, .bf16⟩
  | .hbm, ⟨37, _⟩ => ⟨S16384x1024, .bf16⟩
  | .hbm, ⟨38, _⟩ => ⟨S16384x1024, .bf16⟩
  | .hbm, ⟨39, _⟩ => ⟨S16384x1024, .f32⟩
  | .hbm, ⟨40, _⟩ => ⟨S16384x1024, .bf16⟩
  | .hbm, ⟨41, _⟩ => ⟨S16384x1024, .bf16⟩
  | .local _ .vmem, ⟨0, _⟩ => ⟨S256x4096, .bf16⟩
  | .local _ .vmem, ⟨1, _⟩ => ⟨S256x4096, .bf16⟩
  | .local _ .vmem, ⟨2, _⟩ => ⟨S16x4096, .bf16⟩
  | .local _ .vmem, ⟨3, _⟩ => ⟨S16x4096, .bf16⟩
  | .local _ .vmem, ⟨4, _⟩ => ⟨S6x1024, .f32⟩
  | .local _ .vmem, ⟨5, _⟩ => ⟨S1x1024, .f32⟩
  | .local _ .vmem, ⟨6, _⟩ => ⟨S1024x128, .bf16⟩
  | .local _ .vmem, ⟨7, _⟩ => ⟨S128x1024, .bf16⟩
  | .local _ .vmem, ⟨8, _⟩ => ⟨S1x1024, .f32⟩
  | .local _ .vmem, ⟨9, _⟩ => ⟨S1024x128, .bf16⟩
  | .local _ .vmem, ⟨10, _⟩ => ⟨S128x1024, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_call4_v0 : Ref sig .tc := ⟨.hbm, 27, rfl⟩
abbrev main_v8 : Ref sig .tc := ⟨.hbm, 28, rfl⟩
abbrev main_v9 : Ref sig .tc := ⟨.hbm, 29, rfl⟩
abbrev main_c_4 : Ref sig .tc := ⟨.hbm, 30, rfl⟩
abbrev main_call5_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_v14_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S16384x4096 : Shape := ⟨2, ![16384, 4096]⟩
abbrev S6x1024 : Shape := ⟨2, ![6, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S16385x4096 : Shape := ⟨2, ![16385, 4096]⟩
abbrev S16384x1024 : Shape := ⟨2, ![16384, 1024]⟩
abbrev S1x1024 : Shape := ⟨2, ![1, 1024]⟩
abbrev S16384x64 : Shape := ⟨2, ![16384, 64]⟩
abbrev S16384x160 : Shape := ⟨2, ![16384, 160]⟩

abbrev nBuf : Space → Nat
  | .hbm => 103
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S6x1024, .f32⟩
  | .hbm, ⟨2, _⟩ => ⟨S1024, .f32⟩
  | .hbm, ⟨3, _⟩ => ⟨S1024x64, .f32⟩
  | .hbm, ⟨4, _⟩ => ⟨S64x1024, .f32⟩
  | .hbm, ⟨5, _⟩ => ⟨S1024, .f32⟩
  | .hbm, ⟨6, _⟩ => ⟨S1024x64, .f32⟩
  | .hbm, ⟨7, _⟩ => ⟨S64x1024, .f32⟩
  | .hbm, ⟨8, _⟩ => ⟨S1024x160, .f32⟩
  | .hbm, ⟨9, _⟩ => ⟨S160x1024, .f32⟩
  | .hbm, ⟨10, _⟩ => ⟨S16384x4096, .f32⟩
  | .hbm, ⟨11, _⟩ => ⟨S_, .i32⟩
  | .hbm, ⟨12, _⟩ => ⟨S_, .f32⟩
  | .hbm, ⟨13, _⟩ => ⟨S16385x4096, .f32⟩
  | .hbm, ⟨14, _⟩ => ⟨S16384x4096, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x64, .f32⟩
  | .hbm, ⟨49, _⟩ => ⟨S16384x64, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .i1⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x64, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S16384x160, .f32⟩
  | .hbm, ⟨89, _⟩ => ⟨S16384x160, .f32⟩
  | .hbm, ⟨90, _⟩ => ⟨S16384x160, .f32⟩
  | .hbm, ⟨91, _⟩ => ⟨S_, .f32⟩
  | .hbm, ⟨92, _⟩ => ⟨S16384x160, .f32⟩
  | .hbm, ⟨93, _⟩ => ⟨S16384x160, .f32⟩
  | .hbm, ⟨94, _⟩ => ⟨S_, .f32⟩
  | .hbm, ⟨95, _⟩ => ⟨S16384x160, .f32⟩
  | .hbm, ⟨96, _⟩ => ⟨S16384x160, .f32⟩
  | .hbm, ⟨97, _⟩ => ⟨S16384x1024, .f32⟩
  | .hbm, ⟨98, _⟩ => ⟨S16384x1024, .bf16⟩
  | .hbm, ⟨99, _⟩ => ⟨S16384x1024, .bf16⟩
  | .hbm, ⟨100, _⟩ => ⟨S16384x1024, .bf16⟩
  | .hbm, ⟨101, _⟩ => ⟨S16384x1024, .bf16⟩
  | .hbm, ⟨102, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v43 : Ref sig .tc := ⟨.hbm, 68, rfl⟩
abbrev main_v44 : Ref sig .tc := ⟨.hbm, 69, rfl⟩
abbrev main_cst : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_0 : Ref sig .tc := ⟨.hbm, 82, rfl⟩
abbrev main_v56 : Ref sig .tc := ⟨.hbm, 83, rfl⟩
abbrev main_v57 : Ref sig .tc := ⟨.hbm, 84, rfl⟩
abbrev main_cst_1 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_2 : Ref sig .tc := ⟨.hbm, 91, rfl⟩
abbrev main_v63 : Ref sig .tc := ⟨.hbm, 92, rfl⟩
abbrev main_v64 : Ref sig .tc := ⟨.hbm, 93, rfl⟩
abbrev main_cst_3 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Proof.Common.lean ====
/-
  The stick-breaking kernel's arithmetic, stated once over any float values. A grid point treats four query tiles
  (`s`, 128 queries each) of two heads (`h`): eight chains, chain `2 s + h`. Each chain keeps an accumulator and a carry
  (the log-weight left over by the keys already seen), and a trip takes the next window of 256 keys, walking to the
  left from the tile's own diagonal. This file names a trip's arithmetic for one chain (`accStep`, `carryStep`), the
  eight chains' state (`St`), the loop's test (`again`), the point's result (`outBlk`) and how eight tiles lie in a
  buffer (`assemble`).
-/
module

public import proofs.«01_k».proof.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic
public import Idealize.ShloMosaic.Lib.ValueIdxCore

@[expose] public section

noncomputable section

namespace Cert.Proof.Sb

open Cert.KernelIdeal Cert.KernelIdeal.Gen
open Idealize.ShloMosaic Idealize.ShloMosaic.TcCoe
open Idealize.ShloMosaic.ValueIdx

variable {F : FTy → Type} [FloatOps F] [Named F]

/-! ### One chain, one trip -/

/-- The logits of a chain's queries against a window of keys. -/
def logits (q : FVec F S128x128 .bf16) (k : FVec F S256x128 .bf16) : FVec F S128x256 .f32 :=
  matmul dot_S128x128_S256x128_S128x256_1_1_0_0_n_n none q k (constant S128x256 .f32 0x00000000#32)

/-- Zero in every entry of a tile by window. -/
def zeros : FVec F S128x256 .f32 := broadcast S128x256 (Scalar.ofBits .f32 0x00000000#32 : F .f32)

/-- The softplus of the logits, as the kernel spells it. -/
def softp (z : FVec F S128x256 .f32) : FVec F S128x256 .f32 :=
  addf (maximumf z zeros) (log (addf (broadcast S128x256 (Scalar.ofBits .f32 0x3F800000#32 : F .f32)) (exp (subf zeros (absf z)))))

/-- The log of what each key in sight leaves over; zero at a key out of sight. -/
def keep (vm : IVec S128x256 1) (z : FVec F S128x256 .f32) : FVec F S128x256 .bf16 :=
  truncf .bf16 (select vm (subf zeros (softp z)) zeros) bitsLt_bf16_f32

/-- The log of what the later keys leave over: within the window through the triangle `tri`, beyond it the carry. -/
def later (tri : FVec F S256x256 .bf16) (kp : FVec F S128x256 .bf16) (cr : FVec F S128x128 .f32) : FVec F S128x256 .f32 :=
  addf (matmul dot_S128x256_S256x256_S128x256_1_0_0_1_n_n none kp tri (constant S128x256 .f32 0x00000000#32))
    (concatenate S128x256 1 [⟨S128x128, cr⟩, ⟨S128x128, cr⟩] concatenates_S128x128_S128x128_S128x256_d1)

/-- The weights of the window's keys. -/
def weights (vm : IVec S128x256 1) (z lt : FVec F S128x256 .f32) : FVec F S128x256 .bf16 :=
  truncf .bf16 (select vm (exp (addf (subf z (softp z)) lt)) zeros) bitsLt_bf16_f32

/-- One trip of a chain's accumulator: the window's weighted values are added. -/
def accStep (tri : FVec F S256x256 .bf16) (vm : IVec S128x256 1) (q : FVec F S128x128 .bf16) (k v : FVec F S256x128 .bf16)
    (a cr : FVec F S128x128 .f32) : FVec F S128x128 .f32 :=
  addf a (matmul dot_S128x256_S256x128_S128x128_1_0_0_1_n_n none
    (weights vm (logits q k) (later tri (keep vm (logits q k)) cr)) v (constant S128x128 .f32 0x00000000#32))

/-- One trip of a chain's carry: the window's first column, its own log added, along every lane. -/
def carryStep (tri : FVec F S256x256 .bf16) (vm : IVec S128x256 1) (q : FVec F S128x128 .bf16) (k : FVec F S256x128 .bf16)
    (cr : FVec F S128x128 .f32) : FVec F S128x128 .f32 :=
  broadcastTo S128x128 (shapeCast S128x1
    (addf (extractStridedSlice S128x1 ![0, 0] (later tri (keep vm (logits q k)) cr) slices_S128x256_o0_0_S128x1)
      (extf .f32 (extractStridedSlice S128x1 ![0, 0] (keep vm (logits q k)) slices_S128x256_o0_0_S128x1) bitsLt_bf16_f32))
    shapeCasts_S128x1_S128x1) broadcasts_S128x1_S128x128

/-! ### The masks, the words and the constant tiles -/

/-- One past tile `s`'s last query at grid point `i`. -/
def fe (i : grid0.Coords) (s : BitVec 32) : BitVec 32 :=
  Scalar.muli (Scalar.addi (Scalar.addi (Scalar.muli (BitVec.ofNat 32 (i 1).val) 4#32) s) 1#32) 128#32

/-- The keys of trip `n`'s window in sight of each query of tile `s`: before the query, and not in an earlier window. -/
def sight (v2 v1 : IVec S128x256 32) (i : grid0.Coords) (n s : BitVec 32) : IVec S128x256 1 :=
  cmpi .slt (addi (broadcast S128x256 (Scalar.maxsi (Scalar.subi (Scalar.subi (fe i s) (Scalar.muli n 256#32)) 256#32) 0#32)) v2)
    (minsi (addi (broadcast S128x256 (Scalar.subi (fe i s) 128#32)) v1) (broadcast S128x256 (Scalar.subi (fe i s) (Scalar.muli n 256#32))))

/-- Row and column numbers of a tile by window, lane numbers, and the strict lower triangle. -/
def rowI : IVec S128x256 32 := iota .tc S128x256 32 [0] iota_S128x256_d0_w32
def colI : IVec S128x256 32 := iota .tc S128x256 32 [1] iota_S128x256_d1_w32
def laneI : IVec S1x128 32 := iota .tc S1x128 32 [1] iota_S1x128_d1_w32
def tri0 : FVec F S256x256 .bf16 :=
  truncf .bf16 (select (cmpi .sgt (iota .tc S256x256 32 [0] iota_S256x256_d0_w32) (iota .tc S256x256 32 [1] iota_S256x256_d1_w32))
    (broadcast S256x256 (Scalar.ofBits .f32 0x3F800000#32 : F .f32)) (broadcast S256x256 (Scalar.ofBits .f32 0x00000000#32 : F .f32))) bitsLt_bf16_f32

/-- A head's queries of a tile: the other head's lanes cleared (`b` is set for the first head), scaled by an eighth. -/
def headQ (b : BitVec 1) (q : FVec F S128x128 .bf16) : FVec F S128x128 .bf16 :=
  mulf (select (broadcastTo S128x128 (shapeCast S1x128 (xori (xori (cmpi .slt laneI (broadcast S1x128 64#32))
      (broadcastTo S1x128 (broadcast S1x128 b) broadcasts_S1x128_S1x128)) (constantI S1x128 1 1#1)) shapeCasts_S1x128_S1x128)
      broadcasts_S1x128_S128x128) q (broadcast S128x128 (Scalar.ofBits .bf16 0x0000#16 : F .bf16)))
    (broadcast S128x128 (Scalar.ofBits .bf16 0x3E00#16 : F .bf16))

/-- The two heads of a tile put side by side. -/
def heads (a b : FVec F S128x128 .f32) : FVec F S128x128 .bf16 :=
  truncf .bf16 (select (broadcastTo S128x128 (shapeCast S1x128 (cmpi .slt laneI (broadcast S1x128 64#32)) shapeCasts_S1x128_S1x128)
    broadcasts_S1x128_S128x128) a b) bitsLt_bf16_f32

/-! ### Eight tiles in a buffer -/

/-- Eight tiles, and their layout in a buffer. -/
abbrev Eight (F : FTy → Type) : Type := Fin 8 → FVec F S128x128 .f32

def assemble (g : Eight F) : Vec F S8x128x128 .f32 := fun x => g (x 0) (ix2 (x 1) (x 2))

theorem inb_tile (c : Fin 8) : ∀ a, (![c.val, 0, 0] : Fin 3 → Nat) a + S1x128x128.size a ≤ S8x128x128.size a := by
  intro a; fin_cases a
  · show c.val + 1 ≤ 8; omega
  · show 0 + 128 ≤ 128; omega
  · show 0 + 128 ≤ 128; omega

/-- Tile `c`'s place in the buffer. -/
abbrev tileR (c : Fin 8) : Rect S8x128x128 := Rect.unit (s := S8x128x128) ![c.val, 0, 0] S1x128x128.size (inb_tile c)

/-- A tile read back from the buffer. -/
def tile (X : Vec F S8x128x128 .f32) (c : Fin 8) : FVec F S128x128 .f32 :=
  shapeCast S128x128 (fun x => X ((tileR c).idx x) : Vec F S1x128x128 .f32) shapeCasts_S1x128x128_S128x128

/-- One tile's store, and the eight in the kernel's order, the last first. -/
def piece (g : Eight F) (c : Fin 8) : View.Piece (Elt F) S8x128x128 .f32 :=
  ⟨tileR c, (shapeCast S1x128x128 (g c) shapeCasts_S128x128_S1x128x128 : Vec F S1x128x128 .f32)⟩

def pieces (g : Eight F) : List (View.Piece (Elt F) S8x128x128 .f32) :=
  [piece g 7, piece g 6, piece g 5, piece g 4, piece g 3, piece g 2, piece g 1, piece g 0]

/-! ### The state of the eight chains -/

/-- A window of a key or value buffer at the given corner. -/
def win (X : Vec F S16384x128 .bf16) (o : Fin 2 → Nat) (h : ∀ a, o a + S256x128.size a ≤ S16384x128.size a) : FVec F S256x128 .bf16 :=
  fun x => X ((Rect.unit (s := S16384x128) o S256x128.size h).idx x)

/-- What the loop's function is given besides its buffers: the index tiles, the triangle and the chains' queries. -/
structure Args (F : FTy → Type) where
  v2 : IVec S128x256 32
  v1 : IVec S128x256 32
  q : Fin 8 → FVec F S128x128 .bf16
  tri : FVec F S256x256 .bf16

/-- Chain `c`'s tile. -/
def sub (c : Fin 8) : Fin 4 := ⟨c.val / 2, by omega⟩

/-- Chain `c` after trip `n`: the accumulator and the carry, from the buffers' contents before the trip. -/
def accOf (A : Args F) (i : grid0.Coords) (n : BitVec 32) (h : ∀ s : Fin 4, ∀ a, (k0_off2 i n (BitVec.ofNat 32 s.val)) a + S256x128.size a ≤ S16384x128.size a)
    (X3 X4 : Vec F S16384x128 .bf16) (X6 X7 : Vec F S8x128x128 .f32) : Eight F := fun c =>
  accStep A.tri (sight A.v2 A.v1 i n (BitVec.ofNat 32 (sub c).val)) (A.q c) (win X3 _ (h (sub c))) (win X4 _ (h (sub c))) (tile X6 c) (tile X7 c)

def carryOf (A : Args F) (i : grid0.Coords) (n : BitVec 32) (h : ∀ s : Fin 4, ∀ a, (k0_off2 i n (BitVec.ofNat 32 s.val)) a + S256x128.size a ≤ S16384x128.size a)
    (X3 : Vec F S16384x128 .bf16) (X7 : Vec F S8x128x128 .f32) : Eight F := fun c =>
  carryStep A.tri (sight A.v2 A.v1 i n (BitVec.ofNat 32 (sub c).val)) (A.q c) (win X3 _ (h (sub c))) (tile X7 c)

theorem inb_pair (s : Fin 4) : ∀ a, (![2 * s.val, 0, 0] : Fin 3 → Nat) a + S2x128x128.size a ≤ S8x128x128.size a := by
  intro a; fin_cases a
  · show 2 * s.val + 2 ≤ 8; omega
  · show 0 + 128 ≤ 128; omega
  · show 0 + 128 ≤ 128; omega

/-- The largest carry of tile `s`'s two chains. -/
def top (X7 : Vec F S8x128x128 .f32) (s : Fin 4) : F .f32 :=
  k0_pay3 (fun x => X7 ((Rect.unit (s := S8x128x128) ![2 * s.val, 0, 0] S2x128x128.size (inb_pair s)).idx x) : Vec F S2x128x128 .f32)

/-- Whether tile `s` has keys left in trip `n` and a carry that still counts. -/
def alive (i : grid0.Coords) (n : BitVec 32) (X7 : Vec F S8x128x128 .f32) (s : Fin 4) : BitVec 1 :=
  Scalar.andi (Scalar.cmpi .sgt (Scalar.subi (fe i (BitVec.ofNat 32 s.val)) (Scalar.muli n 256#32)) 0#32)
    (Scalar.cmpf .ogt (top X7 s) (Named.named κ "done" 0xC2B00000#32))

/-- The loop's test before trip `n`. -/
def again (i : grid0.Coords) (n : BitVec 32) (X7 : Vec F S8x128x128 .f32) : BitVec 1 :=
  Scalar.ori (Scalar.ori (Scalar.ori (alive i n X7 0) (alive i n X7 1)) (alive i n X7 2)) (alive i n X7 3)

end Cert.Proof.Sb
end
-- ==== Proof.Trip.lean ====
/-
  One trip of the loop, run through the memory: the loop's function tests the carries, and either makes the trip's eight
  stores to each scratch buffer and calls itself, or returns.
-/
module

public import proofs.«01_k».proof.Proof.Common

@[expose] public section

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)

variable {F : FTy → Type} [FloatOps F] [Named F]

/-- The resource algebra of the pipeline's cells. -/
abbrev UR₀ : Type := UR sig nD τ
local notation "𝕄" => MT nD τ sig Unit (Elt F) ℕ UR₀ ℕ

/-- The loop's variant: the trips still to run. -/
abbrev 𝒱₀ : Variants := Variants.nat

/-- The contents of a memref's buffer, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid0.Coords) (A : Args F)
  (arg3 : Memref sig .tc .vmem S16384x128 .bf16) (harg3 : arg3.IsWhole) (arg4 : Memref sig .tc .vmem S16384x128 .bf16) (harg4 : arg4.IsWhole)
  (arg6 : Memref sig .tc .vmem S8x128x128 .f32) (harg6 : arg6.IsWhole) (arg7 : Memref sig .tc .vmem S8x128x128 .f32) (harg7 : arg7.IsWhole)
  (f3 : Bf (F := F) c arg3) (f4 : Bf (F := F) c arg4) (f6 : Bf (F := F) c arg6) (f7 : Bf (F := F) c arg7)

/-- The loop's record at counter `n`. -/
abbrev rec (n : BitVec 32) : Cc0While1 F :=
  ⟨i, arg7, harg7, arg3, harg3, arg4, harg4, A.v2, A.v1, A.q 0, A.q 1, A.q 2, A.q 3, A.q 4, A.q 5, A.q 6, A.q 7, A.tri, arg6, harg6, n⟩

set_option maxHeartbeats 2000000 in
/-- With the test passed the trip leaves each chain's next accumulator and carry, and the function calls itself. -/
theorem trip_pos (n : BitVec 32) (hchk : k0_chk1 i n) (E : Set ℕ) (o : Option ℕ)
    (hc : again i n (arg7.view.read (Elt F) f7) = 1#1) (R : sProp 𝕄) (K : BitVec 32 → sProp 𝕄)
    (hrest : iprop(R ∗ pt c arg3 f3 ∗ pt c arg4 f4
        ∗ pt c arg6 (arg6.view.writes (Elt F) f6 (pieces (accOf A i n (k0_off2_inb i n hchk)
            (arg3.view.read (Elt F) f3) (arg4.view.read (Elt F) f4) (arg6.view.read (Elt F) f6) (arg7.view.read (Elt F) f7))))
        ∗ pt c arg7 (arg7.view.writes (Elt F) f7 (pieces (carryOf A i n (k0_off2_inb i n hchk)
            (arg3.view.read (Elt F) f3) (arg7.view.read (Elt F) f7)))))
      ⊢ wp frame (wpE (defs₀ (F := F)) 𝒱₀ (c : Thread nD τ) o) E
        (Prog.op (TpuEff.call (1 : (Λ₀ F).Label) (rec i A arg3 harg3 arg4 harg4 arg6 harg6 arg7 harg7 (Scalar.addi n 1#32))) Prog.ret) K) :
    iprop(R ∗ pt c arg3 f3 ∗ pt c arg4 f4 ∗ pt c arg6 f6 ∗ pt c arg7 f7) ⊢
      wp frame (wpE (defs₀ (F := F)) 𝒱₀ (c : Thread nD τ) o) E
        (cc0_while1 i arg7 harg7 arg3 harg3 arg4 harg4 A.v2 A.v1 (A.q 0) (A.q 1) (A.q 2) (A.q 3) (A.q 4) (A.q 5) (A.q 6) (A.q 7) A.tri arg6 harg6 n) K := by
  simp only [cc0_while1_eq_skeleton]; unfold cc0_while1_skel
  iintro ⟨HR, H3, H4, H6, H7⟩
  sl_exec
  iapply hrest
  isplitl [HR]; · iexact HR
  isplitl [H3]; · iexact H3
  isplitl [H4]; · iexact H4
  isplitl [H6]; · iexact H6
  iexact H7

/-- With the test failed the function returns the counter. -/
theorem trip_neg (n : BitVec 32) (E : Set ℕ) (o : Option ℕ)
    (hc : ¬ again i n (arg7.view.read (Elt F) f7) = 1#1) (R : sProp 𝕄) (K : BitVec 32 → sProp 𝕄)
    (hrest : iprop(R ∗ pt c arg3 f3 ∗ pt c arg4 f4 ∗ pt c arg6 f6 ∗ pt c arg7 f7) ⊢ K n) :
    iprop(R ∗ pt c arg3 f3 ∗ pt c arg4 f4 ∗ pt c arg6 f6 ∗ pt c arg7 f7) ⊢
      wp frame (wpE (defs₀ (F := F)) 𝒱₀ (c : Thread nD τ) o) E
        (cc0_while1 i arg7 harg7 arg3 harg3 arg4 harg4 A.v2 A.v1 (A.q 0) (A.q 1) (A.q 2) (A.q 3) (A.q 4) (A.q 5) (A.q 6) (A.q 7) A.tri arg6 harg6 n) K := by
  simp only [cc0_while1_eq_skeleton]; unfold cc0_while1_skel
  iintro ⟨HR, H3, H4, H6, H7⟩
  sl_exec
  sl_step
  iapply hrest
  isplitl [HR]; · iexact HR
  isplitl [H3]; · iexact H3
  isplitl [H4]; · iexact H4
  isplitl [H6]; · iexact H6
  iexact H7

end Cert.Proof.Sb
end
-- ==== Proof.State.lean ====
/-
  The state of the eight chains trip by trip (`accAt`, `carryAt`), the trip the loop stops before (`stopAt`), and the facts
  the run needs of them: where each window starts, that the loop's check passes, that the loop has stopped by trip 64, and
  that a trip's eight stores leave the next state's tiles.
-/
module

public import proofs.«01_k».proof.Proof.Common
public import Idealize.ShloMosaic.Lib.ValueLayout

@[expose] public section

noncomputable section

namespace Cert.Proof.Sb

open Cert.KernelIdeal Cert.KernelIdeal.Gen
open Idealize.ShloMosaic Idealize.ShloMosaic.TcCoe
open Idealize.ShloMosaic.ValueIdx

variable {F : FTy → Type} [FloatOps F] [Named F]

/-! ### The windows' corners -/

/-- The first key of trip `n`'s window for tile `s`. -/
def start (i : grid0.Coords) (n : ℕ) (s : Fin 4) : ℕ := (4 * (i 1).val + s.val + 1) * 128 - 256 * n - 256

theorem i1_lt (i : grid0.Coords) : (i 1).val < 32 := (i 1).isLt

/-- The window's corner as the kernel computes it, over every query block, tile and trip. -/
theorem corner_word : ∀ (a : Fin 32) (s : Fin 4) (n : Fin 65),
    (Scalar.maxsi (Scalar.subi (Scalar.subi (Scalar.muli (Scalar.addi (Scalar.addi (Scalar.muli (BitVec.ofNat 32 a.val) 4#32)
      (BitVec.ofNat 32 s.val)) 1#32) 128#32) (Scalar.muli (BitVec.ofNat 32 n.val) 256#32)) 256#32) 0#32).toNat
      = (4 * a.val + s.val + 1) * 128 - 256 * n.val - 256 := by decide +kernel

theorem corner (i : grid0.Coords) (s : Fin 4) (n : ℕ) (hn : n ≤ 64) :
    (Scalar.maxsi (Scalar.subi (Scalar.subi (fe i (BitVec.ofNat 32 s.val)) (Scalar.muli (BitVec.ofNat 32 n) 256#32)) 256#32) 0#32).toNat
      = start i n s := corner_word ⟨(i 1).val, i1_lt i⟩ s ⟨n, by omega⟩

theorem start_le (i : grid0.Coords) (n : ℕ) (s : Fin 4) : start i n s + 256 ≤ 16384 := by
  have := i1_lt i; have := s.isLt; unfold start; omega

theorem off2_eq (i : grid0.Coords) (s : Fin 4) (n : ℕ) (hn : n ≤ 64) :
    k0_off2 i (BitVec.ofNat 32 n) (BitVec.ofNat 32 s.val) = ![start i n s, 0] := by
  rw [← corner i s n hn]; rfl

/-- The check before a trip's loads passes. -/
theorem chk (i : grid0.Coords) (n : ℕ) (hn : n ≤ 64) : k0_chk1 i (BitVec.ofNat 32 n) := by
  have hd : ∀ s : Fin 4, 128 ∣ start i n s := fun s => by unfold start; omega
  refine ⟨?_, fun s a => ?_, ?_, ?_, ?_⟩
  · have := hd 0; rw [← corner i 0 n hn] at this; exact this
  · rw [off2_eq i s n hn]
    have := start_le i n s
    fin_cases a
    · exact this
    · exact le_refl 128
  · have := hd 1; rw [← corner i 1 n hn] at this; exact this
  · have := hd 2; rw [← corner i 2 n hn] at this; exact this
  · have := hd 3; rw [← corner i 3 n hn] at this; exact this

/-- The window of 256 rows from row `st`. -/
def kwin (X : Vec F S16384x128 .bf16) (st : ℕ) : FVec F S256x128 .bf16 :=
  fun x => X (ix2 ⟨(st + (x 0).val) % 16384, Nat.mod_lt _ (by decide)⟩ (x 1))

theorem win_eq (X : Vec F S16384x128 .bf16) (i : grid0.Coords) (s : Fin 4) (n : ℕ) (hn : n ≤ 64)
    (h : ∀ a, (k0_off2 i (BitVec.ofNat 32 n) (BitVec.ofNat 32 s.val)) a + S256x128.size a ≤ S16384x128.size a) :
    win X (k0_off2 i (BitVec.ofNat 32 n) (BitVec.ofNat 32 s.val)) h = kwin X (start i n s) := by
  have hs := start_le i n s
  have h0 : k0_off2 i (BitVec.ofNat 32 n) (BitVec.ofNat 32 s.val) 0 = start i n s := by rw [off2_eq i s n hn]; rfl
  have h1 : k0_off2 i (BitVec.ofNat 32 n) (BitVec.ofNat 32 s.val) 1 = 0 := by rw [off2_eq i s n hn]; rfl
  funext x
  unfold win kwin
  have hx : (x 0).val < 256 := (x 0).isLt
  refine congrArg X (funext fun a => ?_)
  fin_cases a
  · refine Fin.ext ?_
    show k0_off2 i (BitVec.ofNat 32 n) (BitVec.ofNat 32 s.val) 0 + 1 * (x 0).val = (start i n s + (x 0).val) % 16384
    rw [h0, Nat.mod_eq_of_lt (by omega), Nat.one_mul]
  · refine Fin.ext ?_
    show k0_off2 i (BitVec.ofNat 32 n) (BitVec.ofNat 32 s.val) 1 + 1 * (x 1).val = (x 1).val
    rw [h1, Nat.one_mul, Nat.zero_add]

/-! ### Tiles in the scratch buffers -/

theorem tileR_emb (c : Fin 8) (y : S8x128x128.Idx) (h : y 0 = c) :
    (tileR c).emb (fun a => match a with | ⟨0, _⟩ => (0 : Fin 1) | ⟨1, _⟩ => y 1 | ⟨2, _⟩ => y 2) = y := by
  subst h
  funext a; fin_cases a
  · refine Fin.ext ?_; show (y 0).val + 1 * 0 = (y 0).val; omega
  · refine Fin.ext ?_; show 0 + 1 * (y 1).val = (y 1).val; omega
  · refine Fin.ext ?_; show 0 + 1 * (y 2).val = (y 2).val; omega

theorem tileR_mem (c : Fin 8) (y : S8x128x128.Idx) (h : y ∈ (tileR c).set) : y 0 = c := by
  obtain ⟨x, rfl⟩ := (tileR c).exists_idx_of_mem h
  refine Fin.ext ?_
  have : (x 0).val < 1 := (x 0).isLt
  show c.val + 1 * (x 0).val = c.val; omega

/-- A tile of eight laid out in a buffer is read back. -/
theorem tile_assemble (g : Eight F) (c : Fin 8) : tile (assemble g) c = g c := by
  funext y
  obtain ⟨j, k, rfl⟩ : ∃ (j k : Fin 128), y = ix2 j k := ⟨y 0, y 1, eq_ix2 y⟩
  refine (shapeCast_1ab_ab_apply (fun x => assemble g ((tileR c).idx x)) shapeCasts_S1x128x128_S128x128 j k).trans ?_
  have h0 : (tileR c).idx (ix3 0 j k) 0 = c := Fin.ext (by show c.val + 1 * 0 = c.val; omega)
  have h1 : (tileR c).idx (ix3 0 j k) 1 = j := Fin.ext (by show 0 + 1 * j.val = j.val; omega)
  have h2 : (tileR c).idx (ix3 0 j k) 2 = k := Fin.ext (by show 0 + 1 * k.val = k.val; omega)
  unfold assemble
  rw [h0, h1, h2]

theorem read_pieces_aux {κ : Kind} {sp : Space} (v : View sig κ sp S8x128x128 .f32) (f : v.ty.Contents (Elt F)) (g : Eight F)
    (y : S8x128x128.Idx) : ∀ L : List (Fin 8), y 0 ∈ L →
      v.read (Elt F) (v.writes (Elt F) f (L.map (piece g))) y = assemble g y
  | [], h => absurd h List.not_mem_nil
  | d :: L, h => by
    rw [List.map_cons]
    by_cases hd : y 0 = d
    · conv_lhs => rw [← tileR_emb d y hd]
      unfold piece
      rw [View.read_writes_cons_emb]
      subst hd
      exact shapeCast_ab_1ab_apply (g (y 0)) shapeCasts_S128x128_S1x128x128 0 (y 1) (y 2)
    · rw [View.writes_cons, View.read_slice_write_of_not_mem _ _ _ _
        (by rw [Rect.map_emb_univ]; exact fun hm => hd (tileR_mem d y hm))]
      exact read_pieces_aux v f g y L ((List.mem_cons.mp h).resolve_left hd)

/-- A trip's eight stores leave the eight tiles, whatever the buffer held. -/
theorem read_pieces {κ : Kind} {sp : Space} (v : View sig κ sp S8x128x128 .f32) (f : v.ty.Contents (Elt F)) (g : Eight F) :
    v.read (Elt F) (v.writes (Elt F) f (pieces g)) = assemble g := by
  funext y
  exact read_pieces_aux v f g y [7, 6, 5, 4, 3, 2, 1, 0] (by
    have : ∀ d : Fin 8, d ∈ ([7, 6, 5, 4, 3, 2, 1, 0] : List (Fin 8)) := by decide
    exact this _)

/-! ### The state before each trip -/

variable (A : Args F) (i : grid0.Coords) (X3 X4 : Vec F S16384x128 .bf16)

/-- The carry of chain `c` before trip `n`, -/
def carryAt (c : Fin 8) : ℕ → FVec F S128x128 .f32
  | 0 => broadcast S128x128 (Scalar.ofBits .f32 0x00000000#32 : F .f32)
  | n + 1 => carryStep A.tri (sight A.v2 A.v1 i (BitVec.ofNat 32 n) (BitVec.ofNat 32 (sub c).val)) (A.q c)
      (kwin X3 (start i n (sub c))) (carryAt c n)

/-- and its accumulator. -/
def accAt (c : Fin 8) : ℕ → FVec F S128x128 .f32
  | 0 => broadcast S128x128 (Scalar.ofBits .f32 0x00000000#32 : F .f32)
  | n + 1 => accStep A.tri (sight A.v2 A.v1 i (BitVec.ofNat 32 n) (BitVec.ofNat 32 (sub c).val)) (A.q c)
      (kwin X3 (start i n (sub c))) (kwin X4 (start i n (sub c))) (accAt c n) (carryAt A i X3 c n)

/-- The scratch buffers' contents before trip `n`. -/
def accBuf (n : ℕ) : Vec F S8x128x128 .f32 := assemble fun c => accAt A i X3 X4 c n
def carryBuf (n : ℕ) : Vec F S8x128x128 .f32 := assemble fun c => carryAt A i X3 c n

theorem accOf_eq (n : ℕ) (hn : n ≤ 64) (h) :
    accOf A i (BitVec.ofNat 32 n) h X3 X4 (accBuf A i X3 X4 n) (carryBuf A i X3 n) = fun c => accAt A i X3 X4 c (n + 1) := by
  funext c
  unfold accOf accBuf carryBuf
  rw [tile_assemble, tile_assemble, win_eq X3 i (sub c) n hn, win_eq X4 i (sub c) n hn, accAt]

theorem carryOf_eq (n : ℕ) (hn : n ≤ 64) (h) :
    carryOf A i (BitVec.ofNat 32 n) h X3 (carryBuf A i X3 n) = fun c => carryAt A i X3 c (n + 1) := by
  funext c
  unfold carryOf carryBuf
  rw [tile_assemble, win_eq X3 i (sub c) n hn, carryAt]

/-! ### Where the loop stops -/

/-- The trip the loop stops before, from trip `n` with at most `k` to run. -/
def stopAt : ℕ → ℕ → ℕ
  | 0, n => n
  | k + 1, n => if again i (BitVec.ofNat 32 n) (carryBuf A i X3 n) = 1#1 then stopAt k (n + 1) else n

theorem keys_word : ∀ (a : Fin 32) (s : Fin 4),
    Scalar.cmpi .sgt (Scalar.subi (Scalar.muli (Scalar.addi (Scalar.addi (Scalar.muli (BitVec.ofNat 32 a.val) 4#32)
      (BitVec.ofNat 32 s.val)) 1#32) 128#32) (Scalar.muli (BitVec.ofNat 32 64) 256#32)) 0#32 = 0#1 := by decide +kernel

/-- By trip 64 every tile has run out of keys. -/
theorem again_last (X7 : Vec F S8x128x128 .f32) : ¬ again i (BitVec.ofNat 32 64) X7 = 1#1 := by
  have h : ∀ s : Fin 4, alive i (BitVec.ofNat 32 64) X7 s = 0#1 := fun s => by
    unfold alive fe
    rw [keys_word ⟨(i 1).val, i1_lt i⟩ s]
    exact BitVec.zero_and
  unfold again
  rw [h 0, h 1, h 2, h 3]
  decide

end Cert.Proof.Sb
end
-- ==== Proof.Label.lean ====
/-
  The loop, by induction on the trips still to run. Its function is called holding the keys, the values and the two
  scratch buffers at the state before trip `n`; it returns holding them at the state of the trip it stops before
  (`stopAt`). With no trip left to run the test fails (`again_last`); otherwise the test decides: passed, the trip runs
  (`trip_pos`) and the call it ends in is answered by the induction hypothesis; failed, the function returns (`trip_neg`).
-/
module

public import proofs.«01_k».proof.Proof.Trip
public import proofs.«01_k».proof.Proof.State

@[expose] public section

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)

variable {F : FTy → Type} [FloatOps F] [Named F]

local notation "𝕄" => MT nD τ sig Unit (Elt F) ℕ UR₀ ℕ

variable (c : Dev nD) (i : grid0.Coords) (A : Args F)
  (arg3 : Memref sig .tc .vmem S16384x128 .bf16) (harg3 : arg3.IsWhole) (arg4 : Memref sig .tc .vmem S16384x128 .bf16) (harg4 : arg4.IsWhole)
  (arg6 : Memref sig .tc .vmem S8x128x128 .f32) (harg6 : arg6.IsWhole) (arg7 : Memref sig .tc .vmem S8x128x128 .f32) (harg7 : arg7.IsWhole)
  (f3 : Bf (F := F) c arg3) (f4 : Bf (F := F) c arg4)

/-- A buffer held whole at some contents that read `X`. -/
def at6 (M : Memref sig .tc .vmem S8x128x128 .f32) (X : Vec F S8x128x128 .f32) : sProp 𝕄 :=
  iprop(∃ f : Bf (F := F) c M, ⌜M.view.read (Elt F) f = X⌝ ∗ pt c M f)

/-- What the loop holds before trip `n`. -/
def held (n : ℕ) : sProp 𝕄 :=
  iprop(pt c arg3 f3 ∗ pt c arg4 f4
    ∗ at6 c arg6 (accBuf A i (arg3.view.read (Elt F) f3) (arg4.view.read (Elt F) f4) n)
    ∗ at6 c arg7 (carryBuf A i (arg3.view.read (Elt F) f3) n))

/-- The loop's specification, with at most `k` trips to run from trip `n`. -/
def spec (k n : ℕ) : sWPT 𝕄 (BitVec 32) := do
  sWPT.consume (held c i A arg3 arg4 arg6 arg7 f3 f4 n)
  let r ← sWPT.arbitrary
  sWPT.produce (held c i A arg3 arg4 arg6 arg7 f3 f4 (stopAt A i (arg3.view.read (Elt F) f3) k n))
  pure r

theorem spec_apply (k n : ℕ) (K : BitVec 32 → sProp 𝕄) :
    spec c i A arg3 arg4 arg6 arg7 f3 f4 k n K
      = iprop(held c i A arg3 arg4 arg6 arg7 f3 f4 n ∗ ∀ r : BitVec 32,
          (held c i A arg3 arg4 arg6 arg7 f3 f4 (stopAt A i (arg3.view.read (Elt F) f3) k n) -∗ K r)) := rfl

theorem addi_word : ∀ n : Fin 65, Scalar.addi (BitVec.ofNat 32 n.val) 1#32 = BitVec.ofNat 32 (n.val + 1) := by decide +kernel

/-- The function stops at once when the test fails. -/
theorem spec_stop (k n : ℕ) (hm : stopAt A i (arg3.view.read (Elt F) f3) k n = n) (E : Set ℕ) (o : Option ℕ)
    (hc : ¬ again i (BitVec.ofNat 32 n) (carryBuf A i (arg3.view.read (Elt F) f3) n) = 1#1) (K : BitVec 32 → sProp 𝕄) :
    spec c i A arg3 arg4 arg6 arg7 f3 f4 k n K ⊢ wp frame (wpE (defs₀ (F := F)) 𝒱₀ (c : Thread nD τ) o) E
      (cc0_while1 i arg7 harg7 arg3 harg3 arg4 harg4 A.v2 A.v1 (A.q 0) (A.q 1) (A.q 2) (A.q 3) (A.q 4) (A.q 5) (A.q 6) (A.q 7) A.tri arg6 harg6
        (BitVec.ofNat 32 n)) K := by
  rw [spec_apply, hm]
  unfold held at6
  iintro ⟨⟨H3, H4, ⟨%f6, %h6, H6⟩, ⟨%f7, %h7, H7⟩⟩, Hk⟩
  iapply (trip_neg c i A arg3 harg3 arg4 harg4 arg6 harg6 arg7 harg7 f3 f4 f6 f7 (BitVec.ofNat 32 n) E o (by rw [h7]; exact hc)
    (iprop(∀ r : BitVec 32, (held c i A arg3 arg4 arg6 arg7 f3 f4 n -∗ K r))) K (by
      iintro ⟨Hk, H3, H4, H6, H7⟩
      iapply Hk
      unfold held at6
      isplitl [H3]; · iexact H3
      isplitl [H4]; · iexact H4
      isplitl [H6]
      · iexists f6
        isplitr; · ipureintro; exact h6
        iexact H6
      iexists f7
      isplitr; · ipureintro; exact h7
      iexact H7))
  isplitl [Hk]; · unfold held at6; iexact Hk
  isplitl [H3]; · iexact H3
  isplitl [H4]; · iexact H4
  isplitl [H6]; · iexact H6
  iexact H7

theorem spec_le (E : Set ℕ) : ∀ k n, n + k = 64 → ∀ K : BitVec 32 → sProp 𝕄,
    spec c i A arg3 arg4 arg6 arg7 f3 f4 k n K ⊢ wp frame (wpE (defs₀ (F := F)) 𝒱₀ (c : Thread nD τ) (some k)) E
      (defs₀ (F := F) .tc 1 (rec i A arg3 harg3 arg4 harg4 arg6 harg6 arg7 harg7 (BitVec.ofNat 32 n))) K := by
  intro k
  induction k with
  | zero =>
    intro n hn K
    obtain rfl : n = 64 := by omega
    exact spec_stop c i A arg3 harg3 arg4 harg4 arg6 harg6 arg7 harg7 f3 f4 0 64 rfl E (some 0) (again_last i _) K
  | succ k ih =>
    intro n hn K
    by_cases hc : again i (BitVec.ofNat 32 n) (carryBuf A i (arg3.view.read (Elt F) f3) n) = 1#1
    · show _ ⊢ wp frame (wpE (defs₀ (F := F)) 𝒱₀ (c : Thread nD τ) (some (k + 1))) E
        (cc0_while1 i arg7 harg7 arg3 harg3 arg4 harg4 A.v2 A.v1 (A.q 0) (A.q 1) (A.q 2) (A.q 3) (A.q 4) (A.q 5) (A.q 6) (A.q 7) A.tri arg6 harg6
          (BitVec.ofNat 32 n)) K
      have hstop : stopAt A i (arg3.view.read (Elt F) f3) (k + 1) n = stopAt A i (arg3.view.read (Elt F) f3) k (n + 1) := by
        rw [stopAt, if_pos hc]
      rw [spec_apply, hstop]
      unfold held at6
      iintro ⟨⟨H3, H4, ⟨%f6, %h6, H6⟩, ⟨%f7, %h7, H7⟩⟩, Hk⟩
      iapply (trip_pos c i A arg3 harg3 arg4 harg4 arg6 harg6 arg7 harg7 f3 f4 f6 f7 (BitVec.ofNat 32 n) (chk i n (by omega)) E (some (k + 1))
        (by rw [h7]; exact hc)
        (iprop(∀ r : BitVec 32, (held c i A arg3 arg4 arg6 arg7 f3 f4 (stopAt A i (arg3.view.read (Elt F) f3) k (n + 1)) -∗ K r))) K (by
          iintro ⟨Hk, H3, H4, H6, H7⟩
          rw [addi_word ⟨n, by omega⟩]
          iapply (wp_call_spec 𝒱₀ (c : Thread nD τ) (some (k + 1)) E (spec c i A arg3 arg4 arg6 arg7 f3 f4 k (n + 1)) k
            (fun u hu => by cases hu; exact Nat.lt_succ_self k) (ih (n + 1) (by omega)))
          rw [spec_apply]
          isplitr [Hk]
          · unfold held at6
            isplitl [H3]; · iexact H3
            isplitl [H4]; · iexact H4
            isplitl [H6]
            · iexists _
              isplitr
              rotate_left
              · iexact H6
              · ipureintro
                rw [read_pieces, h6, h7, accOf_eq A i _ _ n (by omega)]
                rfl
            iexists _
            isplitr
            rotate_left
            · iexact H7
            · ipureintro
              rw [read_pieces, h7, carryOf_eq A i _ n (by omega)]
              rfl
          iintro %r Hh
          rw [wp_ret]; imodintro
          iapply Hk
          iexact Hh))
      isplitl [Hk]; · unfold held at6; iexact Hk
      isplitl [H3]; · iexact H3
      isplitl [H4]; · iexact H4
      isplitl [H6]; · iexact H6
      iexact H7
    · exact spec_stop c i A arg3 harg3 arg4 harg4 arg6 harg6 arg7 harg7 f3 f4 (k + 1) n (by rw [stopAt, if_neg hc]) E (some (k + 1)) hc K

end Cert.Proof.Sb
end
-- ==== Proof.Body.lean ====
/-
  The kernel's body at one grid point, run through the memory: the queries' eight chains are loaded, the scratch buffers
  cleared, the first trip made in line, the loop called, and each tile's two heads stored side by side.
-/
module

public import proofs.«01_k».proof.Proof.Label

@[expose] public section

noncomputable section

namespace Cert.Proof.Sb

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)

variable {F : FTy → Type} [FloatOps F] [Named F]

local notation "𝕄" => MT nD τ sig Unit (Elt F) ℕ UR₀ ℕ

/-! ### The point's arguments and result -/

theorem inb_q (s : Fin 4) : ∀ a, (![128 * s.val, 0] : Fin 2 → Nat) a + S128x128.size a ≤ S512x128.size a := by
  intro a; fin_cases a
  · show 128 * s.val + 128 ≤ 512; omega
  · show 0 + 128 ≤ 128; omega

/-- Tile `s`'s place in a block of 512 rows. -/
abbrev rowsR (s : Fin 4) : Rect S512x128 := Rect.unit (s := S512x128) ![128 * s.val, 0] S128x128.size (inb_q s)

/-- Tile `s`'s queries. -/
def qtile (X2 : Vec F S512x128 .bf16) (s : Fin 4) : FVec F S128x128 .bf16 := fun x => X2 ((rowsR s).idx x)

/-- What the loop's function is given at a point whose queries are `X2`. -/
def argsOf (X2 : Vec F S512x128 .bf16) : Args F :=
  ⟨colI, rowI, fun c => headQ (if c.val % 2 = 0 then 1#1 else 0#1) (qtile X2 (sub c)), tri0⟩

/-- Four tiles, each of two heads, in a block of 512 rows. -/
def block (g : Eight F) : Vec F S512x128 .bf16 := fun x =>
  heads (g ⟨2 * ((x 0).val / 128), by have := (x 0).isLt; change _ < 512 at this; omega⟩)
    (g ⟨2 * ((x 0).val / 128) + 1, by have := (x 0).isLt; change _ < 512 at this; omega⟩)
    (ix2 ⟨(x 0).val % 128, Nat.mod_lt _ (by decide)⟩ (x 1))

/-- One tile's store into a block, and the four in the kernel's order, the last first. -/
def opiece (g : Eight F) (s : Fin 4) : View.Piece (Elt F) S512x128 .bf16 :=
  ⟨rowsR s, (heads (g ⟨2 * s.val, by omega⟩) (g ⟨2 * s.val + 1, by omega⟩) : Vec F S128x128 .bf16)⟩

def opieces (g : Eight F) : List (View.Piece (Elt F) S512x128 .bf16) := [opiece g 3, opiece g 2, opiece g 1, opiece g 0]

theorem rowsR_emb (s : Fin 4) (y : S512x128.Idx) (h : (y 0).val / 128 = s.val) :
    (rowsR s).emb (fun a => match a with | ⟨0, _⟩ => (⟨(y 0).val % 128, Nat.mod_lt _ (by decide)⟩ : Fin 128) | ⟨1, _⟩ => y 1) = y := by
  have h0 := Nat.div_add_mod (y 0).val 128
  funext a; fin_cases a
  · refine Fin.ext ?_; show 128 * s.val + 1 * ((y 0).val % 128) = (y 0).val; omega
  · refine Fin.ext ?_; show 0 + 1 * (y 1).val = (y 1).val; omega

theorem rowsR_mem (s : Fin 4) (y : S512x128.Idx) (h : y ∈ (rowsR s).set) : (y 0).val / 128 = s.val := by
  obtain ⟨x, rfl⟩ := (rowsR s).exists_idx_of_mem h
  have h1 : (x 0).val < 128 := (x 0).isLt
  show (128 * s.val + 1 * (x 0).val) / 128 = s.val; omega

omit [Named F] in
theorem read_opieces_aux {κ : Kind} {sp : Space} (v : View sig κ sp S512x128 .bf16) (f : v.ty.Contents (Elt F)) (g : Eight F)
    (y : S512x128.Idx) (t : Fin 4) (ht : (y 0).val / 128 = t.val) : ∀ L : List (Fin 4), t ∈ L →
      v.read (Elt F) (v.writes (Elt F) f (L.map (opiece g))) y = block g y
  | [], h => absurd h List.not_mem_nil
  | d :: L, h => by
    rw [List.map_cons]
    by_cases hd : t = d
    · subst hd
      conv_lhs => rw [← rowsR_emb t y ht]
      unfold opiece
      rw [View.read_writes_cons_emb]
      unfold block
      have e0 : (⟨2 * ((y 0).val / 128), by have := (y 0).isLt; change _ < 512 at this; omega⟩ : Fin 8) = ⟨2 * t.val, by omega⟩ := Fin.ext (by show 2 * ((y 0).val / 128) = 2 * t.val; omega)
      have e1 : (⟨2 * ((y 0).val / 128) + 1, by have := (y 0).isLt; change _ < 512 at this; omega⟩ : Fin 8) = ⟨2 * t.val + 1, by omega⟩ := Fin.ext (by show 2 * ((y 0).val / 128) + 1 = 2 * t.val + 1; omega)
      rw [e0, e1]
      congr 1
      funext a; fin_cases a <;> rfl
    · rw [View.writes_cons, View.read_slice_write_of_not_mem _ _ _ _
        (by rw [Rect.map_emb_univ]; exact fun hm => hd (Fin.ext (ht.symm.trans (rowsR_mem d y hm))))]
      exact read_opieces_aux v f g y t ht L ((List.mem_cons.mp h).resolve_left hd)

omit [Named F] in
/-- The four stores leave the block, whatever it held. -/
theorem read_opieces {κ : Kind} {sp : Space} (v : View sig κ sp S512x128 .bf16) (f : v.ty.Contents (Elt F)) (g : Eight F) :
    v.read (Elt F) (v.writes (Elt F) f (opieces g)) = block g := by
  funext y
  have hy : (y 0).val < 512 := (y 0).isLt
  exact read_opieces_aux v f g y ⟨(y 0).val / 128, by omega⟩ rfl [3, 2, 1, 0] (by
    have : ∀ d : Fin 4, d ∈ ([3, 2, 1, 0] : List (Fin 4)) := by decide
    exact this _)

omit [FloatOps F] [Named F] in
/-- A buffer of eight tiles cleared by one store. -/
theorem read_cleared {κ : Kind} {sp : Space} (v : View sig κ sp S8x128x128 .f32) (f : v.ty.Contents (Elt F)) (h)
    (w : Vec F S8x128x128 .f32) (z : F .f32) (hw : ∀ x, w x = z) :
    v.read (Elt F) (v.writes (Elt F) f [⟨Rect.unit (s := S8x128x128) ![0, 0, 0] S8x128x128.size h, w⟩])
      = assemble fun _ => broadcast S128x128 z := by
  funext y
  have e : (Rect.unit (s := S8x128x128) ![0, 0, 0] S8x128x128.size h).emb y = y := by
    funext a; fin_cases a
    · refine Fin.ext ?_; show 0 + 1 * (y 0).val = (y 0).val; omega
    · refine Fin.ext ?_; show 0 + 1 * (y 1).val = (y 1).val; omega
    · refine Fin.ext ?_; show 0 + 1 * (y 2).val = (y 2).val; omega
  conv_lhs => rw [← e]
  rw [View.read_writes_cons_emb]
  exact hw y

variable (c : Dev nD) (i : grid0.Coords)
  (arg2 : Memref sig .tc .vmem S512x128 .bf16) (harg2 : arg2.IsWhole)
  (arg3 : Memref sig .tc .vmem S16384x128 .bf16) (harg3 : arg3.IsWhole) (arg4 : Memref sig .tc .vmem S16384x128 .bf16) (harg4 : arg4.IsWhole)
  (arg5 : Memref sig .tc .vmem S512x128 .bf16) (harg5 : arg5.IsWhole)
  (arg6 : Memref sig .tc .vmem S8x128x128 .f32) (harg6 : arg6.IsWhole) (arg7 : Memref sig .tc .vmem S8x128x128 .f32) (harg7 : arg7.IsWhole)
  (f2 : Bf (F := F) c arg2) (f3 : Bf (F := F) c arg3) (f4 : Bf (F := F) c arg4) (f5 : Bf (F := F) c arg5)
  (f6 : Bf (F := F) c arg6) (f7 : Bf (F := F) c arg7)

/-- Where the loop of a point with queries `X2` and keys `X3` stops. -/
def lastTrip (X2 : Vec F S512x128 .bf16) (i : grid0.Coords) (X3 : Vec F S16384x128 .bf16) : ℕ := stopAt (argsOf X2) i X3 63 1

/-- The point's result from its queries, keys and values. -/
def outBlk (X2 : Vec F S512x128 .bf16) (i : grid0.Coords) (X3 X4 : Vec F S16384x128 .bf16) : Vec F S512x128 .bf16 :=
  block fun c => accAt (argsOf X2) i X3 X4 c (lastTrip X2 i X3)

set_option maxHeartbeats 400000 in
theorem body_wp (E : Set ℕ) (R : sProp 𝕄) (K : PUnit → sProp 𝕄)
    (hrest : iprop(R ∗ pt c arg2 f2 ∗ pt c arg3 f3 ∗ pt c arg4 f4
      ∗ (∃ f : Bf (F := F) c arg5, ⌜arg5.view.read (Elt F) f
          = outBlk (arg2.view.read (Elt F) f2) i (arg3.view.read (Elt F) f3) (arg4.view.read (Elt F) f4)⌝ ∗ pt c arg5 f)
      ∗ (∃ f : Bf (F := F) c arg6, pt c arg6 f) ∗ (∃ f : Bf (F := F) c arg7, pt c arg7 f)) ⊢ K ⟨⟩) :
    iprop(R ∗ pt c arg2 f2 ∗ pt c arg3 f3 ∗ pt c arg4 f4 ∗ pt c arg5 f5 ∗ pt c arg6 f6 ∗ pt c arg7 f7) ⊢
      wp frame (wpE (defs₀ (F := F)) 𝒱₀ (c : Thread nD τ) none) E
        (cc0__sb_kernel i arg2 harg2 arg3 harg3 arg4 harg4 arg5 harg5 arg6 harg6 arg7 harg7) K := by
  simp only [cc0__sb_kernel_eq_skeleton]; unfold cc0__sb_kernel_skel
  iintro ⟨HR, H2, H3, H4, H5, H6, H7⟩
  set_option sl_exec.stopBefore "k0_part5" in sl_exec
  generalize hg6 : arg6.view.writes (Elt F) f6 [⟨Rect.unit (s := S8x128x128) ![0, 0, 0] S8x128x128.size _, _⟩] = g6
  generalize hg7 : arg7.view.writes (Elt F) f7 [⟨Rect.unit (s := S8x128x128) ![0, 0, 0] S8x128x128.size _, _⟩] = g7
  have h6 : arg6.view.read (Elt F) g6 = accBuf (argsOf (arg2.view.read (Elt F) f2)) i (arg3.view.read (Elt F) f3) (arg4.view.read (Elt F) f4) 0 := by
    rw [← hg6]; exact read_cleared _ _ _ _ _ fun _ => rfl
  have h7 : arg7.view.read (Elt F) g7 = carryBuf (argsOf (arg2.view.read (Elt F) f2)) i (arg3.view.read (Elt F) f3) 0 := by
    rw [← hg7]; exact read_cleared _ _ _ _ _ fun _ => rfl
  sl_exec
  iapply (wp_call_spec 𝒱₀ (c : Thread nD τ) none E
    (spec c i (argsOf (arg2.view.read (Elt F) f2)) arg3 arg4 arg6 arg7 f3 f4 63 1) 63
    (fun u hu => nomatch hu)
    (spec_le c i (argsOf (arg2.view.read (Elt F) f2)) arg3 harg3 arg4 harg4 arg6 harg6 arg7 harg7 f3 f4 E 63 1 rfl))
  rw [spec_apply]
  isplitr [HR H2 H5]
  · unfold held at6
    isplitl [H3]; · iexact H3
    isplitl [H4]; · iexact H4
    isplitl [H6]
    · iexists (arg6.view.writes (Elt F) g6 (pieces (accOf (argsOf (arg2.view.read (Elt F) f2)) i 0#32 (k0_off2_inb i 0#32 (chk i 0 (by decide)))
        (arg3.view.read (Elt F) f3) (arg4.view.read (Elt F) f4) (arg6.view.read (Elt F) g6) (arg7.view.read (Elt F) g7))))
      isplitr
      rotate_left
      · iexact H6
      · ipureintro
        rw [read_pieces, h6, h7]
        exact congrArg assemble (accOf_eq _ i _ _ 0 (by decide) _)
    iexists (arg7.view.writes (Elt F) g7 (pieces (carryOf (argsOf (arg2.view.read (Elt F) f2)) i 0#32 (k0_off2_inb i 0#32 (chk i 0 (by decide)))
        (arg3.view.read (Elt F) f3) (arg7.view.read (Elt F) g7))))
    isplitr
    rotate_left
    · iexact H7
    · ipureintro
      rw [read_pieces, h7]
      exact congrArg assemble (carryOf_eq _ i _ 0 (by decide) _)
  iintro %r Hh
  unfold held at6
  icases Hh with ⟨H3, H4, ⟨%k6, %e6, H6⟩, ⟨%k7, %e7, H7⟩⟩
  sl_exec
  rw [wp_ret]; imodintro
  iapply hrest
  isplitl [HR]; · iexact HR
  isplitl [H2]; · iexact H2
  isplitl [H3]; · iexact H3
  isplitl [H4]; · iexact H4
  isplitl [H5]
  · iexists (arg5.view.writes (Elt F) f5 (opieces (tile (arg6.view.read (Elt F) k6))))
    isplitr
    rotate_left
    · iexact H5
    · ipureintro
      rw [read_opieces, e6]
      unfold outBlk accBuf
      refine congrArg block (funext fun c => ?_)
      rw [tile_assemble]
      rfl
  isplitl [H6]
  · iexists k6; iexact H6
  iexists k7; iexact H7

end Cert.Proof.Sb
end
-- ==== Proof.Run.lean ====
/-
  The run. The pipeline's four windows: a block of queries, the head pair's keys and values (the three cut from the one
  argument, so that the windows share it), and the block of results. At each point the body leaves the inputs as found
  and the result block at `outBlk` of them; the scratch buffers end at something.
-/
module

public import proofs.«01_k».proof.Proof.Body

@[expose] public section

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UR₀ ℕ

variable (m : (ℓ : Loc nD τ sig) → Buf (Elt F) ℓ) (ρ : Dev nD → PrngReg)

/-- The contents at launch. -/
abbrev V (c : Dev nD) (b : Ref sig .tc) : Buf (Elt F) ((c : Thread nD τ).loc b) := m ((c : Thread nD τ).loc b)

/-- A window's block at a point, from the launch contents. -/
abbrev iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data. -/
def dats (_ : Fin 1) (c : Dev nD) : Dat τ (Elt F) Unit ℕ UR₀ ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (grid0.coords t) (iblk m c 1 t) (iblk m c 2 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) :
    (dats m 0 c).after 3 t = outBlk (iblk m c 0 t) (grid0.coords t) (iblk m c 1 t) (iblk m c 2 t) := by dsimp only [dats]; rfl

theorem before_0 (c : Dev nD) (t : Fin (cfg0 (F := F)).N) (d) : (dats m 0 c).before 0 t d = iblk m c 0 t :=
  (dats m 0 c).before_in_eq_fetched 0 rfl (fun _ => rfl) (fun _ _ _ => rfl) (fun t => by rw [after_0]; rfl) t d
theorem before_1 (c : Dev nD) (t : Fin (cfg0 (F := F)).N) (d) : (dats m 0 c).before 1 t d = iblk m c 1 t :=
  (dats m 0 c).before_in_eq_fetched 1 rfl (fun _ => rfl) (fun _ _ _ => rfl) (fun t => by rw [after_1]; rfl) t d
theorem before_2 (c : Dev nD) (t : Fin (cfg0 (F := F)).N) (d) : (dats m 0 c).before 2 t d = iblk m c 2 t :=
  (dats m 0 c).before_in_eq_fetched 2 rfl (fun _ => rfl) (fun _ _ _ => rfl) (fun t => by rw [after_2]; rfl) t d

/-! ### The body at a point -/

/-- The body on whole buffers: the inputs as found, the result block computed. -/
theorem body_owns (c : Dev nD) (i : grid0.Coords)
    (arg2 : Memref sig .tc .vmem S512x128 .bf16) (harg2 : arg2.IsWhole)
    (arg3 : Memref sig .tc .vmem S16384x128 .bf16) (harg3 : arg3.IsWhole) (arg4 : Memref sig .tc .vmem S16384x128 .bf16) (harg4 : arg4.IsWhole)
    (arg5 : Memref sig .tc .vmem S512x128 .bf16) (harg5 : arg5.IsWhole)
    (arg6 : Memref sig .tc .vmem S8x128x128 .f32) (harg6 : arg6.IsWhole) (arg7 : Memref sig .tc .vmem S8x128x128 .f32) (harg7 : arg7.IsWhole)
    (x2 : Vec F S512x128 .bf16) (x3 x4 : Vec F S16384x128 .bf16) (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d)
        ∗ (∃ f : Bf (F := F) c arg6, pt c arg6 f) ∗ (∃ f : Bf (F := F) c arg7, pt c arg7 f)
        ∗ (iprop(owns (c : Thread nD τ) arg2 fullShare x2 ∗ owns (c : Thread nD τ) arg3 fullShare x3 ∗ owns (c : Thread nD τ) arg4 fullShare x4
          ∗ owns (c : Thread nD τ) arg5 fullShare (outBlk x2 i x3 x4)
          ∗ (∃ f : Bf (F := F) c arg6, pt c arg6 f) ∗ (∃ f : Bf (F := F) c arg7, pt c arg7 f)) -∗ K ⟨⟩))
      ⊢ wp frame (wpE (defs₀ (F := F)) 𝒱₀ (c : Thread nD τ) none) E
        (cc0__sb_kernel i arg2 harg2 arg3 harg3 arg4 harg4 arg5 harg5 arg6 harg6 arg7 harg7) K := by
  unfold owns
  iintro ⟨⟨%f2, %h2, H2⟩, ⟨%f3, %h3, H3⟩, ⟨%f4, %h4, H4⟩, ⟨%d5, %f5, -, H5⟩, ⟨%f6, H6⟩, ⟨%f7, H7⟩, Hk⟩
  subst h2 h3 h4
  rw [harg2.set_eq_univ, harg3.set_eq_univ, harg4.set_eq_univ, harg5.set_eq_univ]
  iapply (body_wp c i arg2 harg2 arg3 harg3 arg4 harg4 arg5 harg5 arg6 harg6 arg7 harg7 f2 f3 f4 f5 f6 f7 E
    (iprop(iprop((∃ f, ⌜arg2.view.read (Elt F) f = arg2.view.read (Elt F) f2⌝ ∗ pt c arg2 f)
      ∗ (∃ f, ⌜arg3.view.read (Elt F) f = arg3.view.read (Elt F) f3⌝ ∗ pt c arg3 f)
      ∗ (∃ f, ⌜arg4.view.read (Elt F) f = arg4.view.read (Elt F) f4⌝ ∗ pt c arg4 f)
      ∗ (∃ f, ⌜arg5.view.read (Elt F) f = outBlk (arg2.view.read (Elt F) f2) i (arg3.view.read (Elt F) f3) (arg4.view.read (Elt F) f4)⌝ ∗ pt c arg5 f)
      ∗ (∃ f : Bf (F := F) c arg6, pt c arg6 f) ∗ (∃ f : Bf (F := F) c arg7, pt c arg7 f)) -∗ K ⟨⟩)) K (by
      iintro ⟨Hk, H2, H3, H4, H5, H6, H7⟩
      iapply Hk
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]; · iexact H5
      isplitl [H6]; · iexact H6
      iexact H7))
  isplitl [Hk]; · iexact Hk
  isplitl [H2]; · iexact H2
  isplitl [H3]; · iexact H3
  isplitl [H4]; · iexact H4
  isplitl [H5]; · iexact H5
  isplitl [H6]; · iexact H6
  iexact H7

/-- What the body is called with at a point, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, show (dats m 0 c).Φ t.castSucc = Pipeline.ΦA spec0 c from rfl]
  unfold Pipeline.ΦA
  rw [scopedRest0_eq]
  iintro ⟨⟨⟨H6, H7⟩, Hg⟩, Ho, ⟨%d0, H0⟩, ⟨%d1, H1⟩, ⟨%d2, H2⟩, ⟨%d3, H3⟩⟩
  iapply (body_owns c (grid0.coords t) _ _ _ _ _ _ _ _ (Memref.whole cc0_scratch0) (Memref.isWhole_whole _) (Memref.whole cc0_scratch1) (Memref.isWhole_whole _)
    (iblk m c 0 t) (iblk m c 1 t) (iblk m c 2 t) Set.univ _)
  isplitl [H0]; · iexact H0
  isplitl [H1]; · iexact H1
  isplitl [H2]; · iexact H2
  isplitl [H3]; · iexists _; iexact H3
  isplitl [H6]; · iexact H6
  isplitl [H7]; · iexact H7
  iintro ⟨H0, H1, H2, H3, H6, H7⟩
  isplitl [Hg H6 H7]
  · isplitl [H6 H7]
    · isplitl [H6]; · iexact H6
      iexact H7
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The launch -/

set_option backward.isDefEq.respectTransparency.types false in
/-- Every execution of the program ends, nothing faulting, with every window's array at what the library computes from
    the proof data and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m)
    (hmain := Pipeline.hmain_region cfgs 0 defs₀ 𝒱₀ m main fun c => (main_chain c).trans rfl)
    (hA := A_eq m) (hΦ := fun _ _ => rfl)

/-- The run, at the argument and the result. -/
theorem run : θ_run defs (onTc (τ := τ) (main (F := F))) ⟨m, fun _ => 0, ρ⟩ (fun r => (∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0))
      ∧ r.2.sem = fun _ => 0) :=
  (θ_run defs _ _).mono
    (fun _ h => ⟨fun c => ⟨(h.1 c).1 3, ((h.1 c).1 0).trans ((dats m 0 c).arrAt_in 0 rfl _)⟩, h.2⟩)
    (run_main m ρ)

end Cert.Proof.Sb
end
-- ==== Proof.Frames.lean ====
/- The frames of the three programs, and what the one named constant stands for.

   The printed program and its idealization differ in one literal, which the idealization calls "done". Run.lean is of the
   idealization and Printed/Run.lean of the printed program. -/
module

public import proofs.«01_k».proof.Defs
public import proofs.«01_k».proof.Proof.Run
public import proofs.«01_k».proof.Proof.Printed.Run
public import proofs.«01_k».proof.Proof.Gen.Kernel
public import proofs.«01_k».proof.Proof.Gen.ReferenceIdeal.Run
public import Idealize.ShloMosaic.Lib.Quiescent

@[expose] public section
noncomputable section

namespace Cert.Proof.Sb
open Idealize.ShloMosaic Idealize.ShloMosaic.TcCoe Idealize.SL.Sem

/-- The printed program ends, its argument unchanged and every semaphore at zero. -/
theorem frame_kernel : Cert.quiescent_Kernel (hKernel := Cert.Kernel.Gen.facts) := fun m ρ _ =>
  (θ_run (Cert.Kernel.defs (F := Bits)) _ _).mono (fun _ h => ⟨fun c => (h.1 c).2, h.2⟩) (SbPrinted.run (F := Bits) m ρ)

/-- So does its idealization, -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (run (F := Ideal) m ρ)

/-- and so does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is −∞ on the extended reals. -/
theorem preserves_done : Cert.preserves_Kernel_KernelIdeal :=
  IdealRules.named_const.statement Cert.KernelIdeal.κ "done" .f32 0xC2B00000#32 ⊥ rfl

end Cert.Proof.Sb
end
-- ==== Proof.Math.lean ====
/-
  The mathematics of stick-breaking attention on the extended reals, with no program in it: the softplus, a key's weight,
  the attention of one query (`attn`), what one window of keys adds to it, and why nothing is lost by stopping once the log
  of what is left over is −∞.
-/
module

public import Idealize.ShloMosaic.PureOps.Ideal

@[expose] public section

noncomputable section

namespace Cert.Proof.Sb

open Idealize.ShloMosaic
open scoped BigOperators

/-- log (1 + e^z). -/
def splus (z : EReal) : EReal := max z 0 + Ideal.log (1 + Ideal.exp (0 - max z (-z)))

/-- The log of what a key with logit `z` leaves over. -/
def lkeep (z : EReal) : EReal := 0 - splus z

/-- Key `p`'s weight for a query at position `q` whose logits are `z`. -/
def wgt (z : ℕ → EReal) (q p : ℕ) : EReal := Ideal.exp (z p - splus (z p) + ∑ j ∈ Finset.Ico (p + 1) q, lkeep (z j))

/-- The attention over the keys from `e` on. -/
def attnFrom (z v : ℕ → EReal) (e q : ℕ) : EReal := ∑ p ∈ Finset.Ico e q, wgt z q p * v p

theorem splus_top : splus ⊤ = ⊤ := by
  unfold splus
  have h : (0 : EReal) - max ⊤ (-⊤) = ⊥ := by simp
  rw [h, Ideal.exp_bot, add_zero, show (1 : EReal) = ((1 : ℝ) : EReal) from rfl, Ideal.log_coe, if_neg (by norm_num),
    Real.log_one, EReal.coe_zero, add_zero]
  simp

theorem splus_bot : splus ⊥ = 0 := by
  unfold splus
  have h : (0 : EReal) - max ⊥ (-⊥) = ⊥ := by simp
  rw [h, Ideal.exp_bot, add_zero, show (1 : EReal) = ((1 : ℝ) : EReal) from rfl, Ideal.log_coe, if_neg (by norm_num),
    Real.log_one, EReal.coe_zero, add_zero]
  simp

theorem coe_max (a b : ℝ) : ((max a b : ℝ) : EReal) = max (a : EReal) (b : EReal) :=
  Monotone.map_max (f := fun x : ℝ => (x : EReal)) fun _ _ h => EReal.coe_le_coe_iff.mpr h

theorem splus_coe (r : ℝ) : splus (r : EReal) = ((max r 0 + Real.log (1 + Real.exp (-|r|)) : ℝ) : EReal) := by
  unfold splus
  have e : max (r : EReal) (-(r : EReal)) = ((|r| : ℝ) : EReal) := by
    rw [← EReal.coe_neg, ← coe_max]; rfl
  have h : (0 : EReal) - ((|r| : ℝ) : EReal) = ((-|r| : ℝ) : EReal) := by
    rw [← EReal.coe_zero, ← EReal.coe_sub, zero_sub]
  rw [e, h, Ideal.exp_coe, ← EReal.coe_one, ← EReal.coe_add, Ideal.log_coe, if_neg (not_le.mpr (by positivity)), ← EReal.coe_zero,
    ← coe_max, ← EReal.coe_add]

/-- On the reals the log of a key's share is its logit less the softplus. -/
theorem neg_splus_neg (r : ℝ) : -splus (-(r : EReal)) = (r : EReal) - splus r := by
  rw [← EReal.coe_neg, splus_coe, splus_coe, ← EReal.coe_neg, ← EReal.coe_sub, abs_neg]
  congr 1
  rcases le_total r 0 with h | h
  · rw [max_eq_right h, max_eq_left (by linarith)]; ring
  · rw [max_eq_left h, max_eq_right (by linarith)]; ring

theorem lkeep_coe (r : ℝ) : ∃ s : ℝ, lkeep (r : EReal) = (s : EReal) := by
  unfold lkeep
  rw [splus_coe, ← EReal.coe_zero, ← EReal.coe_sub]
  exact ⟨_, rfl⟩

/-- The weight with its parts added the other way round: the log of the key's share by the softplus of the negated logit,
    and the logs of the keys from `p` on with `p`'s own taken away again. -/
theorem wgt_eq (z : ℕ → EReal) (q p : ℕ) (h : p < q) :
    Ideal.exp (-splus (-(z p)) + (∑ j ∈ Finset.Ico p q, lkeep (z j) - lkeep (z p))) = wgt z q p := by
  unfold wgt
  rw [Finset.sum_eq_sum_Ico_succ_bot h]
  induction hz : z p with
  | bot =>
    rw [EReal.neg_bot, splus_top, EReal.neg_top, EReal.bot_add, splus_bot, EReal.bot_sub, EReal.bot_add]
  | top =>
    rw [show lkeep ⊤ = ⊥ by unfold lkeep; rw [splus_top]; simp, EReal.bot_add, EReal.bot_sub, EReal.add_bot, splus_top,
      EReal.sub_top, EReal.bot_add]
  | coe r =>
    obtain ⟨s, hs⟩ := lkeep_coe r
    rw [neg_splus_neg, hs]
    congr 2
    induction ∑ j ∈ Finset.Ico (p + 1) q, lkeep (z j) with
    | bot => simp
    | top => simp
    | coe t => rw [← EReal.coe_add, ← EReal.coe_sub]; congr 1; ring

/-- A sum over a window of keys in sight, as a sum over their positions. -/
theorem sum_window {M : Type*} [AddCommMonoid M] (n st m : ℕ) (hm : m ≤ st + n) (f : ℕ → M) :
    (∑ j : Fin n, if st + j.val < m then f (st + j.val) else 0) = ∑ p ∈ Finset.Ico st m, f p := by
  rw [Fin.sum_univ_eq_sum_range (fun j => if st + j < m then f (st + j) else 0) n, ← Finset.sum_filter,
    Finset.sum_Ico_eq_sum_range]
  refine Finset.sum_congr ?_ fun _ _ => rfl
  ext j
  simp only [Finset.mem_filter, Finset.mem_range]
  omega

/-- The same of the keys after column `k`. -/
theorem sum_window_after {M : Type*} [AddCommMonoid M] (n st m : ℕ) (hm : m ≤ st + n) (f : ℕ → M) (k : ℕ) :
    (∑ j : Fin n, if k < j.val then (if st + j.val < m then f (st + j.val) else 0) else 0) = ∑ p ∈ Finset.Ico (st + k + 1) m, f p := by
  have e : ∀ j : Fin n, (if k < j.val then (if st + j.val < m then f (st + j.val) else 0) else 0)
      = if st + j.val < m then (fun p => if st + k < p then f p else 0) (st + j.val) else 0 := fun j => by
    by_cases h1 : k < j.val
    · have h2 : st + k < st + j.val := by omega
      simp only [h1, h2, if_true]
    · have h2 : ¬ st + k < st + j.val := by omega
      simp only [h1, h2, if_false, ite_self]
  rw [Finset.sum_congr rfl fun j _ => e j, sum_window n st m hm (fun p => if st + k < p then f p else 0), ← Finset.sum_filter]
  refine Finset.sum_congr ?_ fun _ _ => rfl
  ext p
  simp only [Finset.mem_filter, Finset.mem_Ico]
  omega

/-- Splitting the keys from `st` on at `e`, those before the query only. -/
theorem sum_split {M : Type*} [AddCommMonoid M] (st e q : ℕ) (h : st ≤ e) (f : ℕ → M) :
    (∑ p ∈ Finset.Ico st (min q e), f p) + ∑ p ∈ Finset.Ico e q, f p = ∑ p ∈ Finset.Ico st q, f p := by
  rcases le_total q e with hq | hq
  · rw [min_eq_left hq, Finset.Ico_eq_empty (by omega : ¬ e < q), Finset.sum_empty, add_zero]
  · rw [min_eq_right hq, Finset.sum_Ico_consecutive _ h hq]

/-- Once the log left over by the keys from `e` on is −∞, the keys before `e` weigh nothing. -/
theorem attnFrom_zero (z v : ℕ → EReal) (e q : ℕ) (h : ∑ p ∈ Finset.Ico e q, lkeep (z p) = ⊥) :
    attnFrom z v e q = attnFrom z v 0 q := by
  unfold attnFrom
  rcases le_total q e with hq | hq
  · rw [Finset.Ico_eq_empty (by omega : ¬ e < q), Finset.sum_empty] at h
    exact absurd h EReal.zero_ne_bot
  · rw [← Finset.sum_Ico_consecutive _ (Nat.zero_le e) hq]
    refine ((congrArg (· + _) (Finset.sum_eq_zero fun p hp => ?_)).trans (zero_add _)).symm
    have hp' := (Finset.mem_Ico.mp hp).2
    have : ∑ j ∈ Finset.Ico (p + 1) q, lkeep (z j) = ⊥ := by
      rw [← Finset.sum_Ico_consecutive _ (show p + 1 ≤ e from hp') hq, h, EReal.add_bot]
    unfold wgt
    rw [this, EReal.add_bot, Ideal.exp_bot, zero_mul]

/-- A real nonnegative factor goes through a finite sum. -/
theorem sum_mul_coe {ι : Type*} (s : Finset ι) (f : ι → EReal) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

end Cert.Proof.Sb
end
-- ==== Proof.Step.lean ====
/-
  A trip's arithmetic read entry by entry on the extended reals.
-/
module

public import proofs.«01_k».proof.Proof.Body
public import proofs.«01_k».proof.Proof.Math
public import Idealize.ShloMosaic.Lib.Pointwise
public import Idealize.ShloMosaic.Lib.WordCmp
public import Idealize.ShloMosaic.Lib.IdealHost

@[expose] public section

noncomputable section

namespace Cert.Proof.Sb

open Cert.KernelIdeal Cert.KernelIdeal.Gen
open Idealize.ShloMosaic Idealize.ShloMosaic.TcCoe
open Idealize.ShloMosaic.ValueIdx (eq_ix2)
open Idealize.ShloMosaic.WordCmp (cmpi_sgt_ofNat_eq_one_iff toInt_ofNat_of_lt cmpi_slt_eq cmpi_sgt_eq ofBool_decide_eq_one_iff)
open scoped BigOperators

theorem select_if {α : Type} (c : BitVec 1) (a b : α) : Scalar.select c a b = if c = 1#1 then a else b := rfl

theorem logits_apply (q : FVec Ideal S128x128 .bf16) (k : FVec Ideal S256x128 .bf16) (r : Fin 128) (j : Fin 256) :
    logits q k (ix2 r j) = ∑ l : Fin 128, q (ix2 r l) * k (ix2 j l) := by
  unfold logits
  simp only [pointwise]
  exact zero_add _

theorem softp_apply (z : FVec Ideal S128x256 .f32) (x : S128x256.Idx) : softp z x = splus (z x) := by
  unfold softp zeros
  simp only [pointwise]
  rfl

theorem keep_apply (vm : IVec S128x256 1) (z : FVec Ideal S128x256 .f32) (x : S128x256.Idx) :
    keep vm z x = if vm x = 1#1 then lkeep (z x) else 0 := by
  unfold keep zeros
  simp only [pointwise, softp_apply]
  rfl

/-- The carry is read at the key's lane; every lane holds the same. -/
theorem later_apply (tri : FVec Ideal S256x256 .bf16) (kp : FVec Ideal S128x256 .bf16) (cr : FVec Ideal S128x128 .f32)
    (r : Fin 128) (j : Fin 256) (w : EReal) (hw : ∀ l, cr (ix2 r l) = w) :
    later tri kp cr (ix2 r j) = (∑ j' : Fin 256, kp (ix2 r j') * tri (ix2 j' j)) + w := by
  unfold later
  set_option maxRecDepth 4096 in simp only [pointwise]
  rw [zero_add]
  refine congrArg (_ + ·) ?_
  split
  · exact hw _
  · refine (congrArg cr ?_).trans (hw ⟨j.val - 128, by omega⟩)
    rfl

theorem tri0_apply (j j' : Fin 256) : tri0 (F := Ideal) (ix2 j' j) = if j.val < j'.val then 1 else 0 := by
  unfold tri0
  simp only [pointwise]
  rw [select_if]
  refine if_congr ?_ rfl rfl
  have e0 : List.foldl (fun n a => n * ![256, 256] a + (ix2 j' j a).val) 0 [0] = j'.val := by
    show 0 * 256 + j'.val = _; omega
  have e1 : List.foldl (fun n a => n * ![256, 256] a + (ix2 j' j a).val) 0 [1] = j.val := by
    show 0 * 256 + j.val = _; omega
  rw [e0, e1]
  exact cmpi_sgt_ofNat_eq_one_iff (by have := j'.isLt; show _ < 2 ^ 31; omega) (by have := j.isLt; show _ < 2 ^ 31; omega)

theorem lanes_first : ∀ l : Fin 128, IntOp.xori (IntOp.xori (IntOp.cmpi .slt (BitVec.ofNat 32 l.val) 64#32) 1#1) 1#1 = 1#1 ↔ l.val < 64 := by
  decide

theorem lanes_second : ∀ l : Fin 128, IntOp.xori (IntOp.xori (IntOp.cmpi .slt (BitVec.ofNat 32 l.val) 64#32) 0#1) 1#1 = 1#1 ↔ ¬ l.val < 64 := by
  decide

theorem lanes_half : ∀ l : Fin 128, IntOp.cmpi .slt (BitVec.ofNat 32 l.val) 64#32 = 1#1 ↔ l.val < 64 := by decide

theorem eighth : Ideal.ofBits .bf16 0x3E00#16 = ((1 / 8 : ℝ) : EReal) := by
  simp [Ideal.ofBits, Ideal.ieee, -EReal.coe_mul]; norm_num

theorem headQ_apply (h : Fin 2) (q : FVec Ideal S128x128 .bf16) (r l : Fin 128) :
    headQ (if h.val = 0 then 1#1 else 0#1) q (ix2 r l) = if l.val / 64 = h.val then q (ix2 r l) * ((1 / 8 : ℝ) : EReal) else 0 := by
  unfold headQ laneI
  simp only [pointwise]
  rw [select_if, eighth]
  have e1 : 0 * 128 + l.val = l.val := by omega
  refine if_congr ?_ rfl rfl
  have hl := l.isLt
  match h with
  | ⟨0, _⟩ => exact (show IntOp.xori (IntOp.xori (IntOp.cmpi .slt (BitVec.ofNat 32 (0 * 128 + l.val)) 64#32) 1#1) 1#1 = 1#1 ↔ _ from e1.symm ▸ lanes_first l).trans (by show _ ↔ l.val / 64 = 0; omega)
  | ⟨1, _⟩ => exact (show IntOp.xori (IntOp.xori (IntOp.cmpi .slt (BitVec.ofNat 32 (0 * 128 + l.val)) 64#32) 0#1) 1#1 = 1#1 ↔ _ from e1.symm ▸ lanes_second l).trans (by show _ ↔ l.val / 64 = 1; omega)

theorem heads_apply (a b : FVec Ideal S128x128 .f32) (r l : Fin 128) :
    heads a b (ix2 r l) = if l.val < 64 then a (ix2 r l) else b (ix2 r l) := by
  unfold heads laneI
  simp only [pointwise]
  rw [select_if]
  refine if_congr ?_ rfl rfl
  have e1 : 0 * 128 + l.val = l.val := by omega
  show IntOp.cmpi .slt (BitVec.ofNat 32 (0 * 128 + l.val)) 64#32 = 1#1 ↔ _
  rw [e1]
  exact lanes_half l

theorem carryStep_apply (tri : FVec Ideal S256x256 .bf16) (vm : IVec S128x256 1) (q : FVec Ideal S128x128 .bf16) (k : FVec Ideal S256x128 .bf16)
    (cr : FVec Ideal S128x128 .f32) (r l : Fin 128) :
    carryStep tri vm q k cr (ix2 r l) = later tri (keep vm (logits q k)) cr (ix2 r 0) + keep vm (logits q k) (ix2 r 0) := by
  unfold carryStep
  simp only [pointwise]
  have e : (⟨![0, 0] 0 + (if h1 : 128 = 1 then (0 : Fin 128) else r).val, by have := r.isLt; show 0 + r.val < 128; omega⟩ : Fin 128) = r :=
    Fin.ext (by show 0 + r.val = _; omega)
  exact congrArg (fun x : Fin 128 => later tri (keep vm (logits q k)) cr (ix2 x 0) + keep vm (logits q k) (ix2 x 0)) e

theorem accStep_apply (tri : FVec Ideal S256x256 .bf16) (vm : IVec S128x256 1) (q : FVec Ideal S128x128 .bf16) (k v : FVec Ideal S256x128 .bf16)
    (a cr : FVec Ideal S128x128 .f32) (r l : Fin 128) :
    accStep tri vm q k v a cr (ix2 r l) = a (ix2 r l)
      + ∑ j : Fin 256, weights vm (logits q k) (later tri (keep vm (logits q k)) cr) (ix2 r j) * v (ix2 j l) := by
  unfold accStep
  simp only [pointwise]
  rw [zero_add]

theorem weights_apply (vm : IVec S128x256 1) (z lt : FVec Ideal S128x256 .f32) (x : S128x256.Idx) :
    weights vm z lt x = if vm x = 1#1 then Ideal.exp (z x - splus (z x) + lt x) else 0 := by
  unfold weights zeros
  simp only [pointwise, softp_apply]
  rfl

/-! ### Which keys are in sight -/

theorem start_word : ∀ (a : Fin 32) (s : Fin 4) (n : Fin 65),
    Scalar.maxsi (Scalar.subi (Scalar.subi (Scalar.muli (Scalar.addi (Scalar.addi (Scalar.muli (BitVec.ofNat 32 a.val) 4#32)
      (BitVec.ofNat 32 s.val)) 1#32) 128#32) (Scalar.muli (BitVec.ofNat 32 n.val) 256#32)) 256#32) 0#32
      = BitVec.ofNat 32 ((4 * a.val + s.val + 1) * 128 - 256 * n.val - 256) := by decide +kernel

theorem first_word : ∀ (a : Fin 32) (s : Fin 4),
    Scalar.subi (Scalar.muli (Scalar.addi (Scalar.addi (Scalar.muli (BitVec.ofNat 32 a.val) 4#32)
      (BitVec.ofNat 32 s.val)) 1#32) 128#32) 128#32 = BitVec.ofNat 32 ((4 * a.val + s.val) * 128) := by decide +kernel

theorem end_word : ∀ (a : Fin 32) (s : Fin 4) (n : Fin 65),
    (Scalar.subi (Scalar.muli (Scalar.addi (Scalar.addi (Scalar.muli (BitVec.ofNat 32 a.val) 4#32)
      (BitVec.ofNat 32 s.val)) 1#32) 128#32) (Scalar.muli (BitVec.ofNat 32 n.val) 256#32)).toInt
      = (((4 * a.val + s.val + 1) * 128 : ℕ) : ℤ) - ((256 * n.val : ℕ) : ℤ) := by decide +kernel

/-- One past the last key of trip `n`'s window for tile `s`. -/
def stop (i : grid0.Coords) (n : ℕ) (s : Fin 4) : ℕ := (4 * (i 1).val + s.val + 1) * 128 - 256 * n

/-- The position of tile `s`'s query `r`. -/
def posn (i : grid0.Coords) (s : Fin 4) (r : ℕ) : ℕ := (4 * (i 1).val + s.val) * 128 + r

theorem sight_apply (i : grid0.Coords) (s : Fin 4) (n : ℕ) (hn : n ≤ 64) (r : Fin 128) (j : Fin 256) :
    sight colI rowI i (BitVec.ofNat 32 n) (BitVec.ofNat 32 s.val) (ix2 r j) = 1#1
      ↔ start i n s + j.val < min (posn i s r.val) (stop i n s) := by
  have h1 := i1_lt i
  have hr := r.isLt
  have hj := j.isLt
  have hs := start_le i n s
  have w1 := start_word ⟨(i 1).val, h1⟩ s ⟨n, by omega⟩
  have w2 := first_word ⟨(i 1).val, h1⟩ s
  have w3 := end_word ⟨(i 1).val, h1⟩ s ⟨n, by omega⟩
  have e1 : colI (ix2 r j) = BitVec.ofNat 32 j.val := by
    show BitVec.ofNat 32 (0 * 256 + j.val) = _
    rw [Nat.zero_mul, Nat.zero_add]
  have e0 : rowI (ix2 r j) = BitVec.ofNat 32 r.val := by
    show BitVec.ofNat 32 (0 * 128 + r.val) = _
    rw [Nat.zero_mul, Nat.zero_add]
  have hlhs : sight colI rowI i (BitVec.ofNat 32 n) (BitVec.ofNat 32 s.val) (ix2 r j)
      = IntOp.cmpi .slt (IntOp.addi (Scalar.maxsi (Scalar.subi (Scalar.subi (fe i (BitVec.ofNat 32 s.val)) (Scalar.muli (BitVec.ofNat 32 n) 256#32)) 256#32) 0#32)
          (colI (ix2 r j)))
        (IntOp.minsi (IntOp.addi (Scalar.subi (fe i (BitVec.ofNat 32 s.val)) 128#32) (rowI (ix2 r j)))
          (Scalar.subi (fe i (BitVec.ofNat 32 s.val)) (Scalar.muli (BitVec.ofNat 32 n) 256#32))) := rfl
  rw [hlhs, e0, e1]
  unfold fe
  change _ = BitVec.ofNat 32 (start i n s) at w1
  change _ = BitVec.ofNat 32 ((4 * (i 1).val + s.val) * 128) at w2
  change _ = (((4 * (i 1).val + s.val + 1) * 128 : ℕ) : ℤ) - ((256 * n : ℕ) : ℤ) at w3
  generalize Scalar.subi (Scalar.muli (Scalar.addi (Scalar.addi (Scalar.muli (BitVec.ofNat 32 (i 1).val) 4#32)
      (BitVec.ofNat 32 s.val)) 1#32) 128#32) (Scalar.muli (BitVec.ofNat 32 n) 256#32) = E at w1 w3 ⊢
  rw [w1, w2]
  have a1 : IntOp.addi (BitVec.ofNat 32 (start i n s)) (BitVec.ofNat 32 j.val) = BitVec.ofNat 32 (start i n s + j.val) :=
    (BitVec.ofNat_add _ _).symm
  have a2 : IntOp.addi (BitVec.ofNat 32 ((4 * (i 1).val + s.val) * 128)) (BitVec.ofNat 32 r.val) = BitVec.ofNat 32 (posn i s r.val) :=
    (BitVec.ofNat_add _ _).symm
  have t1 : (BitVec.ofNat 32 (start i n s + j.val)).toInt = ((start i n s + j.val : ℕ) : ℤ) :=
    toInt_ofNat_of_lt (by show _ < 2 ^ 31; omega)
  have t2 : (BitVec.ofNat 32 (posn i s r.val)).toInt = ((posn i s r.val : ℕ) : ℤ) :=
    toInt_ofNat_of_lt (by show _ < 2 ^ 31; unfold posn; omega)
  have t3 : (IntOp.minsi (BitVec.ofNat 32 (posn i s r.val)) E).toInt = min ((posn i s r.val : ℕ) : ℤ) E.toInt := by
    unfold IntOp.minsi
    by_cases hc : (BitVec.ofNat 32 (posn i s r.val)).slt E = true
    · rw [if_pos hc, t2]
      rw [BitVec.slt_iff_toInt_lt, t2] at hc
      omega
    · rw [if_neg hc]
      rw [BitVec.slt_iff_toInt_lt, t2] at hc
      omega
  rw [a1, a2, cmpi_slt_eq, ofBool_decide_eq_one_iff, t1, t3, w3]
  unfold stop
  omega

end Cert.Proof.Sb
end
-- ==== Proof.Chain.lean ====
/-
  What a chain has gathered before each trip, and what it holds where the loop stops.
-/
module

public import proofs.«01_k».proof.Proof.Step

@[expose] public section

noncomputable section

namespace Cert.Proof.Sb

open Cert.KernelIdeal Cert.KernelIdeal.Gen
open Idealize.ShloMosaic Idealize.ShloMosaic.TcCoe
open Idealize.ShloMosaic.ValueIdx (eq_ix2)
open Idealize.ShloMosaic.WordCmp (cmpi_sgt_eq ofBool_decide_eq_one_iff)
open scoped BigOperators

/-- Key `p`'s logit against query `r` of a tile of queries. -/
def logitAt (Q : FVec Ideal S128x128 .bf16) (X3 : Vec Ideal S16384x128 .bf16) (r : Fin 128) (p : ℕ) : EReal :=
  ∑ l : Fin 128, Q (ix2 r l) * X3 (ix2 ⟨p % 16384, Nat.mod_lt _ (by decide)⟩ l)

/-- Key `p`'s value in lane `l`. -/
def valueAt (X4 : Vec Ideal S16384x128 .bf16) (l : Fin 128) (p : ℕ) : EReal := X4 (ix2 ⟨p % 16384, Nat.mod_lt _ (by decide)⟩ l)

theorem pair_eq {a b : ℕ} (x : Fin a) (y : Fin b) : ValueIdx.ix2 x y = ix2 x y := by
  funext d; fin_cases d <;> rfl

theorem kwin_apply (X : Vec Ideal S16384x128 .bf16) (st : ℕ) (j : Fin 256) (l : Fin 128) :
    kwin X st (ix2 j l) = X (ix2 ⟨(st + j.val) % 16384, Nat.mod_lt _ (by decide)⟩ l) := by
  unfold kwin
  exact congrArg X (pair_eq _ _)

variable (q : Fin 8 → FVec Ideal S128x128 .bf16) (i : grid0.Coords) (X3 X4 : Vec Ideal S16384x128 .bf16)

theorem sum_first {M : Type*} [AddCommMonoid M] (st m : ℕ) (f : ℕ → M) :
    ∑ p ∈ Finset.Ico (st + 1) m, f p + (if st < m then f st else 0) = ∑ p ∈ Finset.Ico st m, f p := by
  by_cases h : st < m
  · rw [if_pos h, Finset.sum_eq_sum_Ico_succ_bot h, add_comm]
  · rw [if_neg h, Finset.Ico_eq_empty (by omega), Finset.Ico_eq_empty (by omega)]
    simp

theorem window_logits (c : Fin 8) (st : ℕ) (r : Fin 128) (j : Fin 256) :
    logits (q c) (kwin X3 st) (ix2 r j) = logitAt (q c) X3 r (st + j.val) := by
  rw [logits_apply]
  unfold logitAt
  simp only [kwin_apply]

theorem stop_succ (n : ℕ) (s : Fin 4) : stop i (n + 1) s = start i n s := by
  unfold stop start; omega

theorem window_keep (c : Fin 8) (n : ℕ) (hn : n ≤ 64) (r : Fin 128) (j : Fin 256) :
    keep (sight colI rowI i (BitVec.ofNat 32 n) (BitVec.ofNat 32 (sub c).val)) (logits (q c) (kwin X3 (start i n (sub c)))) (ix2 r j)
      = if start i n (sub c) + j.val < min (posn i (sub c) r.val) (stop i n (sub c))
          then lkeep (logitAt (q c) X3 r (start i n (sub c) + j.val)) else 0 := by
  rw [keep_apply, window_logits]
  exact if_congr (sight_apply i (sub c) n hn r j) rfl rfl

/-- The log left over by the later keys, at a key of trip `n`'s window. -/
theorem window_later (c : Fin 8) (n : ℕ) (hn : n ≤ 64) (cr : FVec Ideal S128x128 .f32) (r : Fin 128) (w : EReal)
    (hw : ∀ l, cr (ix2 r l) = w) (j : Fin 256) :
    later tri0 (keep (sight colI rowI i (BitVec.ofNat 32 n) (BitVec.ofNat 32 (sub c).val)) (logits (q c) (kwin X3 (start i n (sub c))))) cr (ix2 r j)
      = ∑ p ∈ Finset.Ico (start i n (sub c) + j.val + 1) (min (posn i (sub c) r.val) (stop i n (sub c))), lkeep (logitAt (q c) X3 r p) + w := by
  rw [later_apply _ _ _ _ _ w hw]
  refine congrArg (· + w) ?_
  rw [← sum_window_after 256 (start i n (sub c)) _ (by unfold stop start; omega) _ j.val]
  refine Finset.sum_congr rfl fun j' _ => ?_
  rw [window_keep q i X3 c n hn r j', tri0_apply]
  by_cases h : j.val < j'.val
  · rw [if_pos h, if_pos h, mul_one]
  · rw [if_neg h, if_neg h, mul_zero]

/-- Before trip `n` a chain's carry holds the log left over by every key from the trip's end to the query. -/
theorem carryAt_apply (c : Fin 8) : ∀ n, n ≤ 64 → ∀ r l : Fin 128,
    carryAt ⟨colI, rowI, q, tri0⟩ i X3 c n (ix2 r l)
      = ∑ p ∈ Finset.Ico (stop i n (sub c)) (posn i (sub c) r.val), lkeep (logitAt (q c) X3 r p)
  | 0, _, r, l => by
    rw [Finset.Ico_eq_empty (by unfold stop posn; omega), Finset.sum_empty]
    unfold carryAt
    simp only [pointwise]
  | n + 1, hn, r, l => by
    have ih := carryAt_apply c n (by omega) r
    rw [carryAt, carryStep_apply, window_later q i X3 c n (by omega) _ r _ ih 0, window_keep q i X3 c n (by omega) r 0, stop_succ]
    have hz : ((0 : Fin 256) : ℕ) = 0 := rfl
    rw [hz]
    simp only [Nat.add_zero]
    rw [add_right_comm, sum_first (start i n (sub c)) _ fun p => lkeep (logitAt (q c) X3 r p)]
    exact sum_split _ _ _ (by unfold start stop; omega) _

/-- Before trip `n` a chain's accumulator holds the attention over every key from the trip's end to the query. -/
theorem accAt_apply (c : Fin 8) : ∀ n, n ≤ 64 → ∀ r l : Fin 128,
    accAt ⟨colI, rowI, q, tri0⟩ i X3 X4 c n (ix2 r l)
      = attnFrom (logitAt (q c) X3 r) (valueAt X4 l) (stop i n (sub c)) (posn i (sub c) r.val)
  | 0, _, r, l => by
    unfold attnFrom
    rw [Finset.Ico_eq_empty (by unfold stop posn; omega), Finset.sum_empty]
    unfold accAt
    simp only [pointwise]
  | n + 1, hn, r, l => by
    have hc := carryAt_apply q i X3 c n (by omega) r
    have hm : min (posn i (sub c) r.val) (stop i n (sub c)) ≤ start i n (sub c) + 256 := by unfold stop start; omega
    have hle : start i n (sub c) ≤ stop i n (sub c) := by unfold stop start; omega
    rw [accAt, accStep_apply, accAt_apply c n (by omega) r l, stop_succ, add_comm]
    unfold attnFrom
    rw [← sum_split (start i n (sub c)) (stop i n (sub c)) (posn i (sub c) r.val) hle,
      ← sum_window 256 (start i n (sub c)) (min (posn i (sub c) r.val) (stop i n (sub c))) hm]
    congr 1
    refine Finset.sum_congr rfl fun j _ => ?_
    rw [weights_apply, window_logits, kwin_apply]
    have hs := sight_apply i (sub c) n (by omega) r j
    by_cases h : start i n (sub c) + j.val < min (posn i (sub c) r.val) (stop i n (sub c))
    · rw [if_pos (hs.mpr h), if_pos h]
      rw [window_later q i X3 c n (by omega) _ r _ hc j, sum_split _ _ _ (by omega) _]
      unfold wgt valueAt
      rfl
    · rw [if_neg (fun e => h (hs.mp e)), if_neg h, zero_mul]

/-! ### Where the loop stops -/

theorem done_bot : (Named.named κ "done" 0xC2B00000#32 : Ideal .f32) = (⊥ : EReal) := rfl

theorem cmpf_gt (x y w : Ideal .f32) (h : y = w) : Scalar.cmpf .ogt x y = 1#1 ↔ (w : EReal) < x := by
  subst h
  show BitVec.ofBool (decide ((y : EReal) < x)) = 1#1 ↔ _
  exact ofBool_decide_eq_one_iff _

theorem top_test (X : Vec Ideal S2x128x128 .f32) (h : ¬ (⊥ : EReal) < k0_pay3 (F := Ideal) X) : ∀ x, X x = ⊥ := by
  unfold k0_pay3 at h
  simp only [pointwise] at h
  intro x
  obtain ⟨a, r, l, rfl⟩ : ∃ (a : Fin 2) (r l : Fin 128), x = ix3 a r l := ⟨x 0, x 1, x 2, by funext d; fin_cases d <;> rfl⟩
  have hle := (Finset.fold_max_le (⊥ : EReal)).mp (not_lt.mp h)
  have hx := hle.2 (ix4 0 a r l) (Finset.mem_filter.mpr ⟨Finset.mem_univ _, by
    funext d; fin_cases d; exact Subsingleton.elim (α := Fin 1) _ _⟩)
  simp only [pointwise] at hx
  exact le_bot_iff.mp hx

theorem ori_zero : ∀ a b c d : BitVec 1, ¬ Scalar.ori (Scalar.ori (Scalar.ori a b) c) d = 1#1 → ¬ a = 1#1 ∧ ¬ b = 1#1 ∧ ¬ c = 1#1 ∧ ¬ d = 1#1 := by
  decide

theorem andi_zero : ∀ a b : BitVec 1, ¬ Scalar.andi a b = 1#1 → ¬ a = 1#1 ∨ ¬ b = 1#1 := by decide

theorem again_apply (n : BitVec 32) (X7 : Vec Ideal S8x128x128 .f32) (h : ¬ again i n X7 = 1#1) (s : Fin 4) : ¬ alive i n X7 s = 1#1 := by
  obtain ⟨h0, h1, h2, h3⟩ := ori_zero _ _ _ _ h
  match s with
  | ⟨0, _⟩ => exact h0
  | ⟨1, _⟩ => exact h1
  | ⟨2, _⟩ => exact h2
  | ⟨3, _⟩ => exact h3

/-- A tile is left only when it has run out of keys or its carries have all reached the bottom. -/
theorem alive_apply (n : ℕ) (hn : n ≤ 64) (X7 : Vec Ideal S8x128x128 .f32) (s : Fin 4) (h : ¬ alive i (BitVec.ofNat 32 n) X7 s = 1#1) :
    stop i n s = 0 ∨ ∀ (c : Fin 8), sub c = s → ∀ r l : Fin 128, X7 (ValueIdx.ix3 c r l) = ⊥ := by
  have h1 := i1_lt i
  rcases andi_zero _ _ h with h | h
  · left
    have w3 := end_word ⟨(i 1).val, h1⟩ s ⟨n, by omega⟩
    change (Scalar.subi (fe i (BitVec.ofNat 32 s.val)) (Scalar.muli (BitVec.ofNat 32 n) 256#32)).toInt
      = (((4 * (i 1).val + s.val + 1) * 128 : ℕ) : ℤ) - ((256 * n : ℕ) : ℤ) at w3
    change ¬ IntOp.cmpi .sgt _ 0#32 = 1#1 at h
    rw [cmpi_sgt_eq, ofBool_decide_eq_one_iff, w3] at h
    have hz : (0#32 : BitVec 32).toInt = 0 := by decide
    rw [hz] at h
    unfold stop
    omega
  · right
    intro c hc r l
    have ht : ¬ (⊥ : EReal) < top X7 s := fun hlt => h (by
      exact (cmpf_gt (top X7 s) _ _ done_bot).mpr hlt)
    have hx := top_test _ ht (ValueIdx.ix3 ⟨c.val % 2, by omega⟩ r l)
    refine Eq.trans (congrArg X7 ?_) hx
    have hs : c.val / 2 = s.val := congrArg Fin.val hc
    funext a; fin_cases a
    · refine Fin.ext ?_; show c.val = 2 * s.val + 1 * (c.val % 2); omega
    · refine Fin.ext ?_; show r.val = 0 + 1 * r.val; omega
    · refine Fin.ext ?_; show l.val = 0 + 1 * l.val; omega

theorem stopAt_spec (A : Args Ideal) : ∀ k n, k + n = 64 →
    stopAt A i X3 k n ≤ 64 ∧ ¬ again i (BitVec.ofNat 32 (stopAt A i X3 k n)) (carryBuf A i X3 (stopAt A i X3 k n)) = 1#1
  | 0, n, h => by
    obtain rfl : n = 64 := by omega
    exact ⟨le_refl _, again_last i _⟩
  | k + 1, n, h => by
    unfold stopAt
    by_cases ha : again i (BitVec.ofNat 32 n) (carryBuf A i X3 n) = 1#1
    · rw [if_pos ha]
      exact stopAt_spec A k (n + 1) (by omega)
    · rw [if_neg ha]
      exact ⟨by omega, ha⟩

/-- Where the loop stops a chain's accumulator holds the attention over every key before the query: the keys it has not
    reached have weight zero. -/
theorem acc_stopped (c : Fin 8) (r l : Fin 128) :
    accAt ⟨colI, rowI, q, tri0⟩ i X3 X4 c (stopAt ⟨colI, rowI, q, tri0⟩ i X3 63 1) (ix2 r l)
      = attnFrom (logitAt (q c) X3 r) (valueAt X4 l) 0 (posn i (sub c) r.val) := by
  obtain ⟨hn, ha⟩ := stopAt_spec i X3 ⟨colI, rowI, q, tri0⟩ 63 1 rfl
  generalize stopAt ⟨colI, rowI, q, tri0⟩ i X3 63 1 = n at hn ha ⊢
  rw [accAt_apply q i X3 X4 c n hn r l]
  rcases alive_apply i n hn _ (sub c) (again_apply i _ _ ha (sub c)) with h | h
  · rw [h]
  · refine attnFrom_zero _ _ _ _ ?_
    rw [← carryAt_apply q i X3 c n hn r l]
    refine Eq.trans (congrArg _ (pair_eq r l).symm) (h c rfl r l)

end Cert.Proof.Sb
end
-- ==== Proof.Spec.lean ====
/-
  What both programs compute: stick-breaking attention at one query and one column, over the keys before the query.
-/
module

public import proofs.«01_k».proof.KernelIdeal
public import proofs.«01_k».proof.Proof.Math
public import Idealize.ShloMosaic.Lib.Pointwise

@[expose] public section

noncomputable section

namespace Cert.Proof.Sb

open Idealize.ShloMosaic
open scoped BigOperators

/-- Queries, keys and values side by side, and the result. -/
abbrev Qkv : Type := (⟨2, ![16384, 3072]⟩ : Shape).Idx → EReal

/-- A position, wrapped into the sequence. -/
abbrev wrap (p : ℕ) : Fin 16384 := ⟨p % 16384, Nat.mod_lt _ (by decide)⟩

/-- Key `p`'s logit for query `q` in head `h`: an eighth of the product of the two rows. -/
def headLogit (X : Qkv) (h : Fin 16) (q : Fin 16384) (p : ℕ) : EReal :=
  (∑ d : Fin 64, X (ix2 q ⟨64 * h.val + d.val, by omega⟩) * X (ix2 (wrap p) ⟨1024 + (64 * h.val + d.val), by omega⟩)) * ((1 / 8 : ℝ) : EReal)

/-- The attention at query `q` and column `l`. -/
def attnAt (X : Qkv) (q : Fin 16384) (l : Fin 1024) : EReal :=
  attnFrom (headLogit X ⟨l.val / 64, by omega⟩ q) (fun p => X (ix2 (wrap p) ⟨2048 + l.val, by omega⟩)) 0 q.val

/-- The whole result. -/
def attn (X : Qkv) : (⟨2, ![16384, 1024]⟩ : Shape).Idx → EReal := fun y => attnAt X (y 0) (y 1)

/-- A sum over 128 lanes of which only one half counts. -/
theorem sum_half (h : Fin 2) (f : Fin 128 → EReal) :
    (∑ l : Fin 128, if l.val / 64 = h.val then f l else 0) = ∑ d : Fin 64, f ⟨64 * h.val + d.val, by omega⟩ := by
  rw [show (∑ l : Fin 128, if l.val / 64 = h.val then f l else 0) = ∑ l : Fin (64 + 64), (fun l : Fin 128 => if l.val / 64 = h.val then f l else 0) l from rfl,
    Fin.sum_univ_add]
  match h with
  | ⟨0, _⟩ =>
    rw [Finset.sum_eq_zero (s := Finset.univ) (f := fun d : Fin 64 => (fun l : Fin 128 => if l.val / 64 = 0 then f l else 0) (Fin.natAdd 64 d))
      (fun d _ => if_neg (by have := d.isLt; show ¬ (64 + d.val) / 64 = 0; omega)), add_zero]
    refine Finset.sum_congr rfl fun d _ => (if_pos (by have := d.isLt; show d.val / 64 = 0; omega)).trans (congrArg f (Fin.ext ?_))
    show d.val = 64 * 0 + d.val; omega
  | ⟨1, _⟩ =>
    rw [Finset.sum_eq_zero (s := Finset.univ) (f := fun d : Fin 64 => (fun l : Fin 128 => if l.val / 64 = 1 then f l else 0) (Fin.castAdd 64 d))
      (fun d _ => if_neg (by have := d.isLt; show ¬ d.val / 64 = 1; omega)), zero_add]
    refine Finset.sum_congr rfl fun d _ => (if_pos (by have := d.isLt; show (64 + d.val) / 64 = 1; omega)).trans (congrArg f (Fin.ext ?_))
    show 64 + d.val = 64 * 1 + d.val; omega

end Cert.Proof.Sb
end
-- ==== Proof.KernelValue.lean ====
/-
  The kernel's result array: every point's block is the attention of its 512 queries in its two heads.
-/
module

public import proofs.«01_k».proof.Proof.Chain
public import proofs.«01_k».proof.Proof.Spec
public import proofs.«01_k».proof.Proof.Run
public import Idealize.ShloMosaic.Lib.Pipeline.ValueKit.Geometry

@[expose] public section

noncomputable section

namespace Cert.Proof.Sb

open Cert.KernelIdeal Cert.KernelIdeal.Gen
open Idealize.ShloMosaic Idealize.ShloMosaic.TcCoe
open scoped BigOperators

/-- A chain's logits are those of its head: the other head's lanes are cleared, and the eighth comes out of the sum. -/
theorem logitAt_headQ (h : Fin 2) (Q : FVec Ideal S128x128 .bf16) (X3 : Vec Ideal S16384x128 .bf16) (r : Fin 128) (p : ℕ) :
    logitAt (headQ (if h.val = 0 then 1#1 else 0#1) Q) X3 r p
      = (∑ d : Fin 64, Q (ix2 r ⟨64 * h.val + d.val, by omega⟩) * X3 (ix2 (wrap p) ⟨64 * h.val + d.val, by omega⟩)) * ((1 / 8 : ℝ) : EReal) := by
  unfold logitAt
  rw [← sum_mul_coe _ _ _ (by norm_num), ← sum_half h fun l => Q (ix2 r l) * X3 (ix2 (wrap p) l) * ((1 / 8 : ℝ) : EReal)]
  refine Finset.sum_congr rfl fun l _ => ?_
  rw [headQ_apply]
  by_cases hl : l.val / 64 = h.val
  · rw [if_pos hl, if_pos hl, mul_right_comm]
  · rw [if_neg hl, if_neg hl, zero_mul]

theorem block_apply (g : Eight Ideal) (y0 : Fin 512) (y1 : Fin 128) :
    block g (ix2 y0 y1) = g ⟨2 * (y0.val / 128) + y1.val / 64, by omega⟩ (ix2 ⟨y0.val % 128, Nat.mod_lt _ (by decide)⟩ y1) := by
  unfold block
  refine (congrArg _ (pair_eq _ _)).trans ?_
  refine (heads_apply _ _ _ _).trans ?_
  by_cases h : y1.val < 64
  · refine (if_pos h).trans ?_
    have e : (⟨2 * (y0.val / 128), by omega⟩ : Fin 8) = ⟨2 * (y0.val / 128) + y1.val / 64, by omega⟩ := Fin.ext (by show 2 * (y0.val / 128) = 2 * (y0.val / 128) + y1.val / 64; omega)
    rw [← e]
    rfl
  · refine (if_neg h).trans ?_
    have e : (⟨2 * (y0.val / 128) + 1, by omega⟩ : Fin 8) = ⟨2 * (y0.val / 128) + y1.val / 64, by omega⟩ := Fin.ext (by show 2 * (y0.val / 128) + 1 = 2 * (y0.val / 128) + y1.val / 64; omega)
    rw [← e]
    rfl

/-- A point's block at a row and a lane, from the blocks it is given. -/
theorem outBlk_apply (X2 : Vec Ideal S512x128 .bf16) (i : grid0.Coords) (X3 X4 : Vec Ideal S16384x128 .bf16) (y0 : Fin 512) (y1 : Fin 128) :
    outBlk X2 i X3 X4 (ix2 y0 y1)
      = attnFrom (fun p => (∑ d : Fin 64, X2 (ix2 y0 ⟨64 * (y1.val / 64) + d.val, by omega⟩) * X3 (ix2 (wrap p) ⟨64 * (y1.val / 64) + d.val, by omega⟩)) * ((1 / 8 : ℝ) : EReal))
          (fun p => X4 (ix2 (wrap p) y1)) 0 (512 * (i 1).val + y0.val) := by
  unfold outBlk lastTrip argsOf
  rw [block_apply, acc_stopped]
  have hs : (sub ⟨2 * (y0.val / 128) + y1.val / 64, by omega⟩).val = y0.val / 128 := by
    show (2 * (y0.val / 128) + y1.val / 64) / 2 = _; omega
  have hp : posn i (sub ⟨2 * (y0.val / 128) + y1.val / 64, by omega⟩) (y0.val % 128) = 512 * (i 1).val + y0.val := by
    unfold posn; rw [hs]; omega
  rw [hp]
  refine congrArg (fun z => attnFrom z _ 0 _) (funext fun p => ?_)
  have hc : (2 * (y0.val / 128) + y1.val / 64) % 2 = (⟨y1.val / 64, by omega⟩ : Fin 2).val := by
    show _ = y1.val / 64; omega
  dsimp only
  rw [hc, logitAt_headQ]
  refine congrArg (· * _) (Finset.sum_congr rfl fun d _ => congrArg (· * _) ?_)
  unfold qtile
  refine congrArg X2 (funext fun a => ?_)
  match a with
  | ⟨0, _⟩ => refine Fin.ext ?_; show 128 * (sub _).val + 1 * (y0.val % 128) = y0.val; rw [hs]; omega
  | ⟨1, _⟩ => refine Fin.ext ?_; show 0 + 1 * (64 * (y1.val / 64) + d.val) = 64 * (y1.val / 64) + d.val; omega

theorem at_q : ∀ t : Fin grid0.N, win0_0.index t = ![(grid0.coords t 1).val, (grid0.coords t 0).val] := by decide +kernel
theorem at_k : ∀ t : Fin grid0.N, win0_1.index t = ![0, 8 + (grid0.coords t 0).val] := by decide +kernel
theorem at_v : ∀ t : Fin grid0.N, win0_2.index t = ![0, 16 + (grid0.coords t 0).val] := by decide +kernel
theorem at_o : ∀ t : Fin grid0.N, win0_3.index t = ![(grid0.coords t 1).val, (grid0.coords t 0).val] := by decide +kernel

variable (m : (ℓ : Loc nD τ sig) → Buf (Elt Ideal) ℓ)

theorem lt_pair (t : Fin grid0.N) : (grid0.coords t 0).val < 8 := (grid0.coords t 0).isLt
theorem lt_rows (t : Fin grid0.N) : (grid0.coords t 1).val < 32 := (grid0.coords t 1).isLt

/-- The three blocks a point is given, at the argument's own rows and columns. -/
theorem read_q (c : Dev nD) (t : Fin grid0.N) (a : Fin 512) (l : Fin 128) :
    iblk m c 0 t (ix2 a l) = m ((c : Thread nD τ).loc main_arg0)
      (ix2 ⟨512 * (grid0.coords t 1).val + a.val, by have := lt_rows t; omega⟩ ⟨128 * (grid0.coords t 0).val + l.val, by have := lt_pair t; omega⟩) := by
  blk_simp [iblk]
  refine congrArg (m ((c : Thread nD τ).loc main_arg0)) ?_
  blk_ext [at_q]

theorem read_k (c : Dev nD) (t : Fin grid0.N) (a : Fin 16384) (l : Fin 128) :
    iblk m c 1 t (ix2 a l) = m ((c : Thread nD τ).loc main_arg0)
      (ix2 a ⟨1024 + (128 * (grid0.coords t 0).val + l.val), by have := lt_pair t; omega⟩) := by
  blk_simp [iblk]
  refine congrArg (m ((c : Thread nD τ).loc main_arg0)) ?_
  blk_ext [at_k]

theorem read_v (c : Dev nD) (t : Fin grid0.N) (a : Fin 16384) (l : Fin 128) :
    iblk m c 2 t (ix2 a l) = m ((c : Thread nD τ).loc main_arg0)
      (ix2 a ⟨2048 + (128 * (grid0.coords t 0).val + l.val), by have := lt_pair t; omega⟩) := by
  blk_simp [iblk]
  refine congrArg (m ((c : Thread nD τ).loc main_arg0)) ?_
  blk_ext [at_v]

/-- The result array is the attention of the argument. -/
theorem result (c : Dev nD) : (dats m 0 c).arrAt 3 (cfg0 (F := Ideal)).N = attn (m ((c : Thread nD τ).loc main_arg0)) := by
  refine (dats m 0 c).arrAt_eq_of_covers 3 _ (by decide +kernel) fun t hf y => ?_
  blk_simp
  rw [after_3]
  obtain ⟨y0, y1, rfl⟩ : ∃ (y0 : Fin 512) (y1 : Fin 128), y = ix2 y0 y1 := ⟨y 0, y 1, by funext d; fin_cases d <;> rfl⟩
  have h0 := lt_pair t
  have h1 := lt_rows t
  have he : (win0_3.blk t).view.emb (ix2 y0 y1)
      = ix2 (⟨512 * (grid0.coords t 1).val + y0.val, by omega⟩ : Fin 16384) (⟨128 * (grid0.coords t 0).val + y1.val, by omega⟩ : Fin 1024) := by
    blk_ext [at_o]
  refine (outBlk_apply _ _ _ _ y0 y1).trans (Eq.trans ?_ (congrArg (attn _) he).symm)
  unfold attn attnAt
  simp only [read_q, read_k, read_v]
  have hl : ∀ (d : Fin 64), 64 * ((128 * (grid0.coords t 0).val + y1.val) / 64) + d.val = 128 * (grid0.coords t 0).val + (64 * (y1.val / 64) + d.val) := fun d => by omega
  refine congrArg (fun z => attnFrom z _ 0 _) (funext fun p => ?_)
  unfold headLogit
  refine congrArg (· * _) (Finset.sum_congr rfl fun d _ => ?_)
  refine congrArg₂ (· * ·) (congrArg (m ((c : Thread nD τ).loc main_arg0)) ?_) (congrArg (m ((c : Thread nD τ).loc main_arg0)) ?_)
  · exact congrArg (ix2 _) (Fin.ext (hl d).symm)
  · exact congrArg (ix2 _) (Fin.ext (congrArg (1024 + ·) (hl d).symm))

end Cert.Proof.Sb
end
-- ==== Proof.RefValue.lean ====
/-
  The reference's result, entry by entry.
-/
module

public import proofs.«01_k».proof.Proof.Spec
public import proofs.«01_k».proof.Proof.Gen.ReferenceIdeal.Run
public import Idealize.ShloMosaic.Lib.WordCmp

@[expose] public section

noncomputable section

namespace Cert.Proof.Sb

open Cert.ReferenceIdeal Cert.ReferenceIdeal.Gen
open Idealize.ShloMosaic Idealize.ShloMosaic.TcCoe
open Idealize.ShloMosaic.WordCmp (cmpi_slt_ofNat_eq_one_iff)
open scoped BigOperators

/-! ### The reference's steps, named -/

/-- The logits. -/
def refLogits (X : FVec Ideal S16384x3072 .bf16) : FVec Ideal S16x16384x16384 .f32 :=
  mulf (Host.dotGeneral dot_S16x16384x64_S16x16384x64_S16x16384x16384_2_2_1_1_0_0 none
      (transpose S16x16384x64 [1, 0, 2] (shapeCast _ (extractStridedSlice S16384x1024 ![0, 0] (extf .f32 X bitsLt_bf16_f32) slices_S16384x3072_S16384x1024_0_0) shapeCasts_S16384x1024_S16384x16x64) transposes_S16384x16x64_S16x16384x64_1_0_2)
      (transpose S16x16384x64 [1, 0, 2] (shapeCast _ (extractStridedSlice S16384x1024 ![0, 1024] (extf .f32 X bitsLt_bf16_f32) slices_S16384x3072_S16384x1024_0_1024) shapeCasts_S16384x1024_S16384x16x64) transposes_S16384x16x64_S16x16384x64_1_0_2))
    (broadcastInDim S16x16384x16384 ![] bcast_S_S16x16384x16384 (constant S_ .f32 0x3E000000#32))

/-- The values. -/
def refValues (X : FVec Ideal S16384x3072 .bf16) : FVec Ideal S16x16384x64 .f32 :=
  transpose S16x16384x64 [1, 0, 2] (shapeCast _ (extractStridedSlice S16384x1024 ![0, 2048] (extf .f32 X bitsLt_bf16_f32) slices_S16384x3072_S16384x1024_0_2048) shapeCasts_S16384x1024_S16384x16x64) transposes_S16384x16x64_S16x16384x64_1_0_2

/-- Which keys come before which queries. -/
def before : IVec S16x16384x16384 1 :=
  broadcastInDim S16x16384x16384 ![1, 2] bcast_S16384x16384_S16x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- Zero everywhere. -/
def nought : FVec Ideal S16x16384x16384 .f32 := broadcastInDim S16x16384x16384 ![] bcast_S_S16x16384x16384 (constant S_ .f32 0x00000000#32)

/-- The softplus. -/
def refSplus (x : FVec Ideal S16x16384x16384 .f32) : FVec Ideal S16x16384x16384 .f32 :=
  select (cmpf .une (subf x nought) (subf x nought)) (addf x nought)
    (addf (maximumf x nought) (Host.log1p (Host.exp (Host.negf (Host.absf (subf x nought))))))

/-- The logs of what each key leaves over. -/
def refKeep (z : FVec Ideal S16x16384x16384 .f32) : FVec Ideal S16x16384x16384 .f32 :=
  select before (Host.negf (refSplus (Host.negf (Host.negf z)))) nought

/-- Their sums over the keys from each key on. -/
def refSums (k : FVec Ideal S16x16384x16384 .f32) : FVec Ideal S16x16384x16384 .f32 :=
  Host.reduceWindowAdd ![1, 1, 16384] ![1, 1, 1] ![0, 0, 0] ![0, 0, 16383] k (broadcastInDim S_ ![] bcast_S_S_ (constant S_ .f32 0x00000000#32))
    reduceWindows_S16x16384x16384_S16x16384x16384_w1s1p0_0_w1s1p0_0_w16384s1p0_16383 h_S_

/-- The weights. -/
def refWeights (z : FVec Ideal S16x16384x16384 .f32) : FVec Ideal S16x16384x16384 .f32 :=
  select before (Host.exp (addf (Host.negf (refSplus (Host.negf z))) (subf (refSums (refKeep z)) (refKeep z)))) nought

/-- The result. -/
def refOut (X : FVec Ideal S16384x3072 .bf16) : FVec Ideal S16384x1024 .bf16 :=
  truncf .bf16 (shapeCast _ (transpose S16384x16x64 [1, 0, 2]
    (Host.dotGeneral dot_S16x16384x16384_S16x16384x64_S16x16384x64_2_1_1_2_0_0 none (refWeights (refLogits X)) (refValues X))
    transposes_S16x16384x64_S16384x16x64_1_0_2) shapeCasts_S16384x16x64_S16384x1024) bitsLt_bf16_f32

theorem refOut_eq (m : (ℓ : Loc nD τ sig) → Buf (Elt Ideal) ℓ) (c : Dev nD) :
    Cert.ReferenceIdeal.Value.res_main_v31 m c = refOut (m ((c : Thread nD τ).loc main_arg0)) := by
  unfold Cert.ReferenceIdeal.Value.res_main_v31
  rfl

/-! ### Read entry by entry -/

theorem refEighth : Ideal.ofBits .f32 0x3E000000#32 = ((1 / 8 : ℝ) : EReal) := by
  simp [Ideal.ofBits, Ideal.ieee, -EReal.coe_mul]; norm_num

theorem wrap_val (p : Fin 16384) : wrap p.val = p := Fin.ext (Nat.mod_eq_of_lt p.isLt)

theorem refLogits_apply (X : FVec Ideal S16384x3072 .bf16) (h : Fin 16) (q p : Fin 16384) :
    refLogits X (ix3 h q p) = headLogit X h q p.val := by
  unfold refLogits headLogit
  simp only [pointwise]
  rw [zero_add, refEighth, wrap_val]
  refine congrArg (· * _) (Finset.sum_congr rfl fun d _ => congrArg₂ (· * ·) (congrArg X ?_) (congrArg X ?_))
  · refine congrArg₂ ix2 (Fin.ext ?_) (Fin.ext ?_)
    · show 0 + q.val = q.val; omega
    · show 0 + (h.val * 64 + d.val) = 64 * h.val + d.val; omega
  · refine congrArg₂ ix2 (Fin.ext ?_) (Fin.ext ?_)
    · show 0 + p.val = p.val; omega
    · show 1024 + (h.val * 64 + d.val) = 1024 + (64 * h.val + d.val); omega

theorem refValues_apply (X : FVec Ideal S16384x3072 .bf16) (h : Fin 16) (p : Fin 16384) (d : Fin 64) :
    refValues X (ix3 h p d) = X (ix2 p ⟨2048 + (64 * h.val + d.val), by omega⟩) := by
  unfold refValues
  simp only [pointwise]
  refine congrArg X (congrArg₂ ix2 (Fin.ext ?_) (Fin.ext ?_))
  · show 0 + p.val = p.val; omega
  · show 2048 + (h.val * 64 + d.val) = 2048 + (64 * h.val + d.val); omega

theorem before_apply (h : Fin 16) (q p : Fin 16384) : before (ix3 h q p) = 1#1 ↔ p.val < q.val := by
  have hp := p.isLt
  have hq := q.isLt
  have e : before (ix3 h q p) = IntOp.cmpi .slt (BitVec.ofNat 32 p.val) (BitVec.ofNat 32 q.val) := rfl
  rw [e]
  exact cmpi_slt_ofNat_eq_one_iff (by show _ < 2 ^ 31; omega) (by show _ < 2 ^ 31; omega)

theorem refSplus_apply (x : FVec Ideal S16x16384x16384 .f32) (i : S16x16384x16384.Idx) : refSplus x i = splus (x i) := by
  unfold refSplus nought
  simp only [pointwise]
  rw [if_neg (fun h => h rfl), sub_zero]
  unfold splus
  rw [zero_sub]
  rfl

theorem neg_splus (z : EReal) : -splus z = lkeep z := by
  unfold lkeep; rw [zero_sub]

theorem refKeep_apply (z : FVec Ideal S16x16384x16384 .f32) (h : Fin 16) (q p : Fin 16384) :
    refKeep z (ix3 h q p) = if p.val < q.val then lkeep (z (ix3 h q p)) else 0 := by
  unfold refKeep nought
  simp only [pointwise, refSplus_apply]
  rw [neg_neg, neg_splus]
  exact if_congr (before_apply h q p) rfl rfl

/-- A window's positions are the numbers below its length. -/
def windowPos : Fin 16384 ≃ (⟨3, ![1, 1, 16384]⟩ : Shape).Idx where
  toFun k := ix3 (0 : Fin 1) (0 : Fin 1) k
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

theorem foldl_sum {n : ℕ} (g : Fin n → EReal) : List.foldl (fun r k => r + g k) 0 (List.finRange n) = ∑ k, g k := by
  have e : ∀ (L : List (Fin n)) (r : EReal), L.foldl (fun r k => r + g k) r = r + (L.map g).sum := by
    intro L
    induction L with
    | nil => intro r; simp
    | cons a L ih => intro r; rw [List.foldl_cons, ih, List.map_cons, List.sum_cons, add_assoc]
  rw [e, zero_add, ← List.ofFn_eq_map, List.sum_ofFn]

theorem foldl_window (W : Shape) (g : W.Idx → EReal) :
    List.foldl (fun r n => r + g (W.rowMajor.symm n)) 0 (List.finRange W.numel) = ∑ w, g w :=
  (foldl_sum fun n => g (W.rowMajor.symm n)).trans (Equiv.sum_comp W.rowMajor.symm g)

/-- A window sum from zero, as a sum over the window's positions. -/
theorem windowAdd_apply {s t u : Shape} (window strides lo hi : Fin s.rank → ℕ) (x : FVec Ideal s .f32) (init : FVec Ideal u .f32)
    (h : s.ReduceWindows window strides lo hi t) (hu : 0 < u.numel) (hv : (init (Shape.Idx.first hu) : EReal) = 0) (j : t.Idx) :
    Host.reduceWindowAdd window strides lo hi x init h hu j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal) := by
  unfold Host.reduceWindowAdd
  rw [Ideal.hostReduceWindowAdd_def, hv]
  unfold Ideal.hostReduceWindowAdd Host.reduceWindow
  dsimp only
  convert foldl_window ⟨s.rank, window⟩ fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)

/-- The sums over a window that reaches past the end are the sums from each key to the end. -/
theorem refSums_apply (k : FVec Ideal S16x16384x16384 .f32) (h : Fin 16) (q p : Fin 16384) :
    refSums k (ix3 h q p) = ∑ j ∈ Finset.Ico p.val 16384, k (ix3 h q (wrap j)) := by
  have hp := p.isLt
  unfold refSums
  rw [windowAdd_apply _ _ _ _ _ _ _ _ (by simp only [pointwise])]
  rw [← Equiv.sum_comp windowPos, ← sum_window 16384 p.val 16384 (by omega)]
  refine Finset.sum_congr rfl fun d _ => ?_
  have hd := d.isLt
  by_cases hlt : p.val + d.val < 16384
  · rw [if_pos hlt, dif_pos (fun a => by
      match a with
      | ⟨0, _⟩ => exact ⟨Nat.zero_le _, by show h.val * 1 + 0 - 0 < 16; have := h.isLt; omega⟩
      | ⟨1, _⟩ => exact ⟨Nat.zero_le _, by show q.val * 1 + 0 - 0 < 16384; have := q.isLt; omega⟩
      | ⟨2, _⟩ => exact ⟨Nat.zero_le _, by show p.val * 1 + d.val - 0 < 16384; omega⟩)]
    refine congrArg k (funext fun a => Fin.ext ?_)
    match a with
    | ⟨0, _⟩ => show h.val * 1 + 0 - 0 = h.val; omega
    | ⟨1, _⟩ => show q.val * 1 + 0 - 0 = q.val; omega
    | ⟨2, _⟩ => show p.val * 1 + d.val - 0 = (p.val + d.val) % 16384; omega
  · rw [if_neg hlt, dif_neg]
    intro hin
    have h2 : p.val * 1 + d.val - 0 < 16384 := (hin 2).2
    omega

theorem sum_before {M : Type*} [AddCommMonoid M] (p q N : ℕ) (hq : q ≤ N) (f : ℕ → M) :
    ∑ j ∈ Finset.Ico p N, (if j < q then f j else 0) = ∑ j ∈ Finset.Ico p q, f j := by
  rw [← Finset.sum_filter]
  refine Finset.sum_congr (Finset.ext fun j => ?_) fun _ _ => rfl
  simp only [Finset.mem_filter, Finset.mem_Ico]
  omega

theorem select_weights (n S K : FVec Ideal S16x16384x16384 .f32) (i : S16x16384x16384.Idx) :
    select before (Host.exp (addf (Host.negf n) (subf S K))) nought i = if before i = 1#1 then Ideal.exp (-n i + (S i - K i)) else 0 := by
  unfold nought
  simp only [pointwise]
  rfl

theorem refWeights_apply (z : FVec Ideal S16x16384x16384 .f32) (h : Fin 16) (q p : Fin 16384) :
    refWeights z (ix3 h q p) = if p.val < q.val then wgt (fun j => z (ix3 h q (wrap j))) q.val p.val else 0 := by
  have hs : refSums (refKeep z) (ix3 h q p) = ∑ j ∈ Finset.Ico p.val q.val, lkeep (z (ix3 h q (wrap j))) := by
    rw [refSums_apply, ← sum_before p.val q.val 16384 (le_of_lt q.isLt)]
    refine Finset.sum_congr rfl fun j hj => ?_
    have hj' : j % 16384 = j := Nat.mod_eq_of_lt (Finset.mem_Ico.mp hj).2
    rw [refKeep_apply]
    exact if_congr (by show j % 16384 < _ ↔ _; rw [hj']) rfl rfl
  unfold refWeights
  rw [select_weights, refSplus_apply]
  by_cases hlt : p.val < q.val
  · rw [if_pos ((before_apply h q p).mpr hlt), if_pos hlt, hs, refKeep_apply, if_pos hlt, ← wgt_eq _ _ _ hlt, wrap_val]
    rfl
  · rw [if_neg (fun hb => hlt ((before_apply h q p).mp hb)), if_neg hlt]

/-- The reference's result at a query and a column. -/
theorem refOut_apply (X : FVec Ideal S16384x3072 .bf16) (q : Fin 16384) (l : Fin 1024) : refOut X (ix2 q l) = attnAt X q l := by
  have hl := l.isLt
  unfold refOut
  simp only [pointwise]
  rw [zero_add]
  unfold attnAt attnFrom
  rw [← sum_before 0 q.val 16384 (le_of_lt q.isLt), Finset.sum_congr (Finset.range_eq_Ico 16384).symm (fun _ _ => rfl), Finset.sum_range]
  refine Finset.sum_congr rfl fun p _ => ?_
  rw [refWeights_apply, refValues_apply]
  by_cases hlt : p.val < q.val
  · rw [if_pos hlt, if_pos hlt]
    refine congrArg₂ (· * ·) ?_ (congrArg X (congrArg₂ ix2 (wrap_val p).symm (Fin.ext ?_)))
    · refine congrArg (fun z => wgt z q.val p.val) (funext fun j => ?_)
      rw [refLogits_apply]
      unfold headLogit
      have e : wrap (wrap j).val = wrap j := wrap_val _
      rw [e]
    · show 2048 + (64 * (l.val / 64) + l.val % 64) = 2048 + l.val; omega
  · rw [if_neg hlt, if_neg hlt, zero_mul]

/-- The reference's result is the attention of its argument. -/
theorem refOut_attn (X : FVec Ideal S16384x3072 .bf16) : refOut X = attn X := by
  funext y
  obtain ⟨q, l, rfl⟩ : ∃ (q : Fin 16384) (l : Fin 1024), y = ix2 q l := ⟨y 0, y 1, by funext d; fin_cases d <;> rfl⟩
  exact refOut_apply X q l

end Cert.Proof.Sb
end
-- ==== Proof.Algebraic.lean ====
/-
  The kernel and the reference compute the same attention.
-/
module

public import proofs.«01_k».proof.Defs
public import proofs.«01_k».proof.Proof.Frames
public import proofs.«01_k».proof.Proof.KernelValue
public import proofs.«01_k».proof.Proof.RefValue

@[expose] public section
noncomputable section

namespace Cert.Proof.Sb
open Idealize.ShloMosaic Idealize.ShloMosaic.TcCoe Idealize.SL.Sem

/-- On the extended reals the kernel's result is the reference's, at every argument. -/
theorem same_attention : Cert.algebraic_KernelIdeal_ReferenceIdeal (hKernelIdeal := Cert.KernelIdeal.Gen.facts)
    (hReferenceIdeal := Cert.ReferenceIdeal.Gen.facts) := by
  intro m ρ m' ρ' _ hagree
  refine ⟨_, (θ_run (Cert.KernelIdeal.defs (F := Ideal)) _ _).mono (fun _ h => h.1) (run (F := Ideal) m ρ), ?_⟩
  refine (θ_run Cert.ReferenceIdeal.defs _ _).mono (fun _ h c => ⟨(h c).1.trans ?_, (h c).2⟩) (Cert.ReferenceIdeal.Value.run (F := Ideal) m' ρ')
  rw [result, refOut_eq, refOut_attn]
  exact congrArg attn (hagree c)

end Cert.Proof.Sb
end
-- ==== Proof.Proj2.lean ====
/-
  The projection to the attention's queries, keys and values: every block of the result is the product of a block of
  rows of the activations with a block of columns of the weights, which the first block of rows leaves in the scratch.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Geometry
public import Idealize.ShloMosaic.Lib.Quiescent

@[expose] public section

noncomputable section

namespace Cert.Proof.Proj2

open Cert.Kernel2Ideal Cert.Kernel2Ideal.Gen Cert.Kernel2Ideal.Value
open Idealize.ShloMosaic Idealize.ShloMosaic.TcCoe Idealize.SL.Sem
open scoped BigOperators

section AnyFloats

variable {F : FTy → Type} [FloatOps F]

theorem origin : (![0, 0] : Fin 2 → Nat) = fun _ => 0 := funext fun a => by fin_cases a <;> rfl

/-- The first block of rows leaves the block of weights in the scratch. -/
theorem scratch_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h3.read_unread, View.ld_unit_zero (S := S2048x1024) origin]

/-- The first block of rows reads those weights back. -/
theorem block_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S2048x1024) _ origin]
  simp only [View.readAt_eq_ld, h2.read_unread, h3.read_unread, View.ld_unit_zero (S := S1024x2048) origin, View.ld_unit_zero (S := S2048x1024) origin]

/-- A later block of rows takes the weights from the scratch. -/
theorem block_later (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : ¬cond0_0 i)
    (x : Vec F S1024x2048 .f32) (w : Vec F S2048x1024 .f32) (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero origin]
  simp only [View.readAt_eq_ld, h2.read_unread, h5.read_unread, View.ld_unit_zero (S := S1024x2048) origin, View.ld_unit_zero (S := S2048x1024) origin]

theorem at_x : ∀ t : Fin grid0.N, win0_0.index t = ![t.val % 16, 0] := by decide +kernel
theorem at_w : ∀ t : Fin grid0.N, win0_1.index t = ![0, 0 + t.val / 16] := by decide +kernel
theorem at_o : ∀ t : Fin grid0.N, win0_2.index t = ![t.val % 16, t.val / 16] := by decide +kernel

variable (m : (ℓ : Loc nD τ sig) → Buf (Elt F) ℓ)

/-- Points of the same block of columns are given the same block of weights. -/
theorem same_weights (c : Dev nD) (t t' : Fin cfg0.N) (h : t.val / 16 = t'.val / 16) : iblk m c 1 t = iblk m c 1 t' := by
  unfold iblk
  have e : win0_1.index t = win0_1.index t' := by rw [at_w t, at_w t', h]
  funext y
  refine congrArg (V m c (Pipeline.arrRef spec0 1)) (funext fun a => Fin.ext ?_)
  match a with
  | ⟨0, _⟩ => exact congrArg (fun f : Fin 2 → ℕ => f 0 * 2048 + 1 * (y 0).val) e
  | ⟨1, _⟩ => exact congrArg (fun f : Fin 2 → ℕ => f 1 * 1024 + 1 * (y 1).val) e

/-- After every point the scratch holds the weights of the point's block of columns. -/
theorem scratch_eq (c : Dev nD) : ∀ (n : ℕ) (h : n < cfg0.N), (outsAt0 m c n h).2 = k0_pay1 (iblk m c 1 ⟨n, h⟩)
  | 0, h => by rw [outsAt0_A m c ⟨0, h⟩ rfl]; dsimp only; rw [scratch_first]
  | n + 1, h => by
    by_cases h0 : (n + 1) % 16 = 0
    · rw [outsAt0_A m c ⟨n + 1, h⟩ h0]; dsimp only; rw [scratch_first]
    · rw [outsAt0_B m c ⟨n + 1, h⟩ h0]; dsimp only; unfold sout0_B_0
      refine (scratch_eq c n (Nat.lt_of_succ_lt h)).trans ?_
      rw [same_weights m c ⟨n, Nat.lt_of_succ_lt h⟩ ⟨n + 1, h⟩ (by show n / 16 = (n + 1) / 16; omega)]

/-- After every point its block of the result is its rows times its weights. -/
theorem after_eq (c : Dev nD) (t : Fin cfg0.N) : (dats m 0 c).after 2 t = k0_pay2 (iblk m c 0 t) (k0_pay1 (iblk m c 1 t)) := by
  rw [after0_2]
  by_cases h0 : t.val % 16 = 0
  · rw [outsAt0_A m c t h0]; dsimp only; rw [block_first]
  · rw [outsAt0_B m c t h0]; dsimp only; rw [block_later]
    have hp : t.val - 1 < cfg0.N := Nat.lt_of_le_of_lt (Nat.sub_le _ _) t.isLt
    rw [scratch_eq m c (t.val - 1) hp, same_weights m c ⟨t.val - 1, hp⟩ t (by show (t.val - 1) / 16 = t.val / 16; omega)]

end AnyFloats

/-- The product's columns from the first of this projection on. -/
def cols (x : FVec Ideal S16384x2048 .f32) (w : FVec Ideal S2048x11264 .f32) : FVec Ideal S16384x3072 .bf16 :=
  fun i => ∑ k : Fin 2048, x (ix2 ⟨(i 0).val, (i 0).isLt⟩ k) * w (ix2 k ⟨0 + (i 1).val, by have h : (i 1).val < 3072 := (i 1).isLt; omega⟩)

theorem block_apply (x : Vec Ideal S1024x2048 .f32) (w : Vec Ideal S2048x1024 .f32) (a b : Fin 1024) :
    k0_pay2 x (k0_pay1 w) (ix2 a b) = ∑ k : Fin 2048, x (ix2 a k) * w (ix2 k b) := by
  unfold k0_pay2 k0_pay1
  simp only [pointwise]
  exact zero_add _

section Result

variable (m : (ℓ : Loc nD τ sig) → Buf (Elt Ideal) ℓ)

theorem lt_points (t : Fin cfg0.N) : t.val < 48 := lt_of_lt_of_eq t.isLt N_0

/-- The two blocks a point is given, at the arguments' own rows and columns. -/
theorem read_x (c : Dev nD) (t : Fin cfg0.N) (a : Fin 1024) (k : Fin 2048) :
    iblk m c 0 t (ix2 a k) = m ((c : Thread nD τ).loc main_arg0) (ix2 ⟨1024 * (t.val % 16) + a.val, by omega⟩ k) := by
  blk_simp [iblk]
  refine congrArg (m ((c : Thread nD τ).loc main_arg0)) ?_
  blk_ext [at_x]

theorem read_w (c : Dev nD) (t : Fin cfg0.N) (k : Fin 2048) (b : Fin 1024) :
    iblk m c 1 t (ix2 k b) = m ((c : Thread nD τ).loc main_arg1) (ix2 k ⟨0 + (1024 * (t.val / 16) + b.val), by have := lt_points t; omega⟩) := by
  blk_simp [iblk]
  refine congrArg (m ((c : Thread nD τ).loc main_arg1)) ?_
  blk_ext [at_w]

/-- The result array is the product's columns. -/
theorem result (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after_eq]
  obtain ⟨a, b, rfl⟩ : ∃ (a : Fin 1024) (b : Fin 1024), y = ix2 a b := ⟨y 0, y 1, by funext d; fin_cases d <;> rfl⟩
  have ht := lt_points t
  have he : (win0_2.blk t).view.emb (ix2 a b)
      = ix2 (⟨1024 * (t.val % 16) + a.val, by omega⟩ : Fin 16384) (⟨1024 * (t.val / 16) + b.val, by omega⟩ : Fin 3072) := by
    blk_ext [at_o]
  refine (block_apply _ _ a b).trans (Eq.trans ?_ (congrArg (cols _ _) he).symm)
  exact Finset.sum_congr rfl fun k _ => congrArg₂ (· * ·) (read_x m c t a k) (read_w m c t k b)

end Result

/-! ### The reference -/

theorem reference_cols (x : FVec Ideal Cert.Reference2Ideal.S16384x2048 .f32) (w : FVec Ideal Cert.Reference2Ideal.S2048x11264 .f32) :
    truncf .bf16 (extractStridedSlice Cert.Reference2Ideal.S16384x3072 ![0, 0] (Host.dotGeneral Cert.Reference2Ideal.dot_S16384x2048_S2048x11264_S16384x11264_1_0_0_1_n_n none x w) Cert.Reference2Ideal.Gen.slices_S16384x11264_S16384x3072_0_0) Cert.Reference2Ideal.Gen.bitsLt_bf16_f32
      = cols x w := by
  funext i
  obtain ⟨a, b, rfl⟩ : ∃ (a : Fin 16384) (b : Fin 3072), i = ix2 a b := ⟨i 0, i 1, by funext d; fin_cases d <;> rfl⟩
  unfold cols
  simp only [pointwise]
  refine (zero_add _).trans (Finset.sum_congr rfl fun k _ => congrArg₂ (· * ·) (congrArg x ?_) (congrArg w ?_))
  · exact congrArg (ix2 · k) (Fin.ext (Nat.zero_add _))
  · rfl

/-! ### The claims -/

theorem frame_kernel : Cert.quiescent_Kernel2 (hKernel2 := Cert.Kernel2.Gen.facts) := fun m ρ _ =>
  Cert.Kernel2.Gen.frame (F := Bits) m ρ

theorem frame_ideal : Cert.quiescent_Kernel2Ideal (hKernel2Ideal := Cert.Kernel2Ideal.Gen.facts) := fun m ρ _ =>
  Cert.Kernel2Ideal.Gen.frame (F := Ideal) m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserved : Cert.preserves_Kernel2_Kernel2Ideal := trivial

theorem same_columns : Cert.algebraic_Kernel2Ideal_Reference2Ideal (hKernel2Ideal := Cert.Kernel2Ideal.Gen.facts) (hReference2Ideal := Cert.Reference2Ideal.Gen.facts) := by
  intro m ρ m' ρ' _ hagree
  refine ⟨_, run_blocks (F := Ideal) m ρ, ?_⟩
  refine (θ_run Cert.Reference2Ideal.defs _ _).mono (fun _ h c => ⟨(h c).1.trans ?_, (h c).2⟩) (Cert.Reference2Ideal.Value.run (F := Ideal) m' ρ')
  rw [result, reference_cols]
  exact congrArg₂ cols (hagree c).1 (hagree c).2

end Cert.Proof.Proj2

end
-- ==== Proof.Proj3.lean ====
/-
  The projection to what the time mixing takes: every block of the result is the product of a block of
  rows of the activations with a block of columns of the weights, which the first block of rows leaves in the scratch.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Geometry
public import Idealize.ShloMosaic.Lib.Quiescent

@[expose] public section

noncomputable section

namespace Cert.Proof.Proj3

open Cert.Kernel3Ideal Cert.Kernel3Ideal.Gen Cert.Kernel3Ideal.Value
open Idealize.ShloMosaic Idealize.ShloMosaic.TcCoe Idealize.SL.Sem
open scoped BigOperators

section AnyFloats

variable {F : FTy → Type} [FloatOps F]

theorem origin : (![0, 0] : Fin 2 → Nat) = fun _ => 0 := funext fun a => by fin_cases a <;> rfl

/-- The first block of rows leaves the block of weights in the scratch. -/
theorem scratch_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h3.read_unread, View.ld_unit_zero (S := S2048x1024) origin]

/-- The first block of rows reads those weights back. -/
theorem block_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S2048x1024) _ origin]
  simp only [View.readAt_eq_ld, h2.read_unread, h3.read_unread, View.ld_unit_zero (S := S1024x2048) origin, View.ld_unit_zero (S := S2048x1024) origin]

/-- A later block of rows takes the weights from the scratch. -/
theorem block_later (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : ¬cond0_0 i)
    (x : Vec F S1024x2048 .f32) (w : Vec F S2048x1024 .f32) (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero origin]
  simp only [View.readAt_eq_ld, h2.read_unread, h5.read_unread, View.ld_unit_zero (S := S1024x2048) origin, View.ld_unit_zero (S := S2048x1024) origin]

theorem at_x : ∀ t : Fin grid0.N, win0_0.index t = ![t.val % 16, 0] := by decide +kernel
theorem at_w : ∀ t : Fin grid0.N, win0_1.index t = ![0, 3 + t.val / 16] := by decide +kernel
theorem at_o : ∀ t : Fin grid0.N, win0_2.index t = ![t.val % 16, t.val / 16] := by decide +kernel

variable (m : (ℓ : Loc nD τ sig) → Buf (Elt F) ℓ)

/-- Points of the same block of columns are given the same block of weights. -/
theorem same_weights (c : Dev nD) (t t' : Fin cfg0.N) (h : t.val / 16 = t'.val / 16) : iblk m c 1 t = iblk m c 1 t' := by
  unfold iblk
  have e : win0_1.index t = win0_1.index t' := by rw [at_w t, at_w t', h]
  funext y
  refine congrArg (V m c (Pipeline.arrRef spec0 1)) (funext fun a => Fin.ext ?_)
  match a with
  | ⟨0, _⟩ => exact congrArg (fun f : Fin 2 → ℕ => f 0 * 2048 + 1 * (y 0).val) e
  | ⟨1, _⟩ => exact congrArg (fun f : Fin 2 → ℕ => f 1 * 1024 + 1 * (y 1).val) e

/-- After every point the scratch holds the weights of the point's block of columns. -/
theorem scratch_eq (c : Dev nD) : ∀ (n : ℕ) (h : n < cfg0.N), (outsAt0 m c n h).2 = k0_pay1 (iblk m c 1 ⟨n, h⟩)
  | 0, h => by rw [outsAt0_A m c ⟨0, h⟩ rfl]; dsimp only; rw [scratch_first]
  | n + 1, h => by
    by_cases h0 : (n + 1) % 16 = 0
    · rw [outsAt0_A m c ⟨n + 1, h⟩ h0]; dsimp only; rw [scratch_first]
    · rw [outsAt0_B m c ⟨n + 1, h⟩ h0]; dsimp only; unfold sout0_B_0
      refine (scratch_eq c n (Nat.lt_of_succ_lt h)).trans ?_
      rw [same_weights m c ⟨n, Nat.lt_of_succ_lt h⟩ ⟨n + 1, h⟩ (by show n / 16 = (n + 1) / 16; omega)]

/-- After every point its block of the result is its rows times its weights. -/
theorem after_eq (c : Dev nD) (t : Fin cfg0.N) : (dats m 0 c).after 2 t = k0_pay2 (iblk m c 0 t) (k0_pay1 (iblk m c 1 t)) := by
  rw [after0_2]
  by_cases h0 : t.val % 16 = 0
  · rw [outsAt0_A m c t h0]; dsimp only; rw [block_first]
  · rw [outsAt0_B m c t h0]; dsimp only; rw [block_later]
    have hp : t.val - 1 < cfg0.N := Nat.lt_of_le_of_lt (Nat.sub_le _ _) t.isLt
    rw [scratch_eq m c (t.val - 1) hp, same_weights m c ⟨t.val - 1, hp⟩ t (by show (t.val - 1) / 16 = t.val / 16; omega)]

end AnyFloats

/-- The product's columns from the first of this projection on. -/
def cols (x : FVec Ideal S16384x2048 .f32) (w : FVec Ideal S2048x11264 .f32) : FVec Ideal S16384x4096 .bf16 :=
  fun i => ∑ k : Fin 2048, x (ix2 ⟨(i 0).val, (i 0).isLt⟩ k) * w (ix2 k ⟨3072 + (i 1).val, by have h : (i 1).val < 4096 := (i 1).isLt; omega⟩)

theorem block_apply (x : Vec Ideal S1024x2048 .f32) (w : Vec Ideal S2048x1024 .f32) (a b : Fin 1024) :
    k0_pay2 x (k0_pay1 w) (ix2 a b) = ∑ k : Fin 2048, x (ix2 a k) * w (ix2 k b) := by
  unfold k0_pay2 k0_pay1
  simp only [pointwise]
  exact zero_add _

section Result

variable (m : (ℓ : Loc nD τ sig) → Buf (Elt Ideal) ℓ)

theorem lt_points (t : Fin cfg0.N) : t.val < 64 := lt_of_lt_of_eq t.isLt N_0

/-- The two blocks a point is given, at the arguments' own rows and columns. -/
theorem read_x (c : Dev nD) (t : Fin cfg0.N) (a : Fin 1024) (k : Fin 2048) :
    iblk m c 0 t (ix2 a k) = m ((c : Thread nD τ).loc main_arg0) (ix2 ⟨1024 * (t.val % 16) + a.val, by omega⟩ k) := by
  blk_simp [iblk]
  refine congrArg (m ((c : Thread nD τ).loc main_arg0)) ?_
  blk_ext [at_x]

theorem read_w (c : Dev nD) (t : Fin cfg0.N) (k : Fin 2048) (b : Fin 1024) :
    iblk m c 1 t (ix2 k b) = m ((c : Thread nD τ).loc main_arg1) (ix2 k ⟨3072 + (1024 * (t.val / 16) + b.val), by have := lt_points t; omega⟩) := by
  blk_simp [iblk]
  refine congrArg (m ((c : Thread nD τ).loc main_arg1)) ?_
  blk_ext [at_w]

/-- The result array is the product's columns. -/
theorem result (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after_eq]
  obtain ⟨a, b, rfl⟩ : ∃ (a : Fin 1024) (b : Fin 1024), y = ix2 a b := ⟨y 0, y 1, by funext d; fin_cases d <;> rfl⟩
  have ht := lt_points t
  have he : (win0_2.blk t).view.emb (ix2 a b)
      = ix2 (⟨1024 * (t.val % 16) + a.val, by omega⟩ : Fin 16384) (⟨1024 * (t.val / 16) + b.val, by omega⟩ : Fin 4096) := by
    blk_ext [at_o]
  refine (block_apply _ _ a b).trans (Eq.trans ?_ (congrArg (cols _ _) he).symm)
  exact Finset.sum_congr rfl fun k _ => congrArg₂ (· * ·) (read_x m c t a k) (read_w m c t k b)

end Result

/-! ### The reference -/

theorem reference_cols (x : FVec Ideal Cert.Reference3Ideal.S16384x2048 .f32) (w : FVec Ideal Cert.Reference3Ideal.S2048x11264 .f32) :
    truncf .bf16 (extractStridedSlice Cert.Reference3Ideal.S16384x4096 ![0, 3072] (Host.dotGeneral Cert.Reference3Ideal.dot_S16384x2048_S2048x11264_S16384x11264_1_0_0_1_n_n none x w) Cert.Reference3Ideal.Gen.slices_S16384x11264_S16384x4096_0_3072) Cert.Reference3Ideal.Gen.bitsLt_bf16_f32
      = cols x w := by
  funext i
  obtain ⟨a, b, rfl⟩ : ∃ (a : Fin 16384) (b : Fin 4096), i = ix2 a b := ⟨i 0, i 1, by funext d; fin_cases d <;> rfl⟩
  unfold cols
  simp only [pointwise]
  refine (zero_add _).trans (Finset.sum_congr rfl fun k _ => congrArg₂ (· * ·) (congrArg x ?_) (congrArg w ?_))
  · exact congrArg (ix2 · k) (Fin.ext (Nat.zero_add _))
  · rfl

/-! ### The claims -/

theorem frame_kernel : Cert.quiescent_Kernel3 (hKernel3 := Cert.Kernel3.Gen.facts) := fun m ρ _ =>
  Cert.Kernel3.Gen.frame (F := Bits) m ρ

theorem frame_ideal : Cert.quiescent_Kernel3Ideal (hKernel3Ideal := Cert.Kernel3Ideal.Gen.facts) := fun m ρ _ =>
  Cert.Kernel3Ideal.Gen.frame (F := Ideal) m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserved : Cert.preserves_Kernel3_Kernel3Ideal := trivial

theorem same_columns : Cert.algebraic_Kernel3Ideal_Reference3Ideal (hKernel3Ideal := Cert.Kernel3Ideal.Gen.facts) (hReference3Ideal := Cert.Reference3Ideal.Gen.facts) := by
  intro m ρ m' ρ' _ hagree
  refine ⟨_, run_blocks (F := Ideal) m ρ, ?_⟩
  refine (θ_run Cert.Reference3Ideal.defs _ _).mono (fun _ h c => ⟨(h c).1.trans ?_, (h c).2⟩) (Cert.Reference3Ideal.Value.run (F := Ideal) m' ρ')
  rw [result, reference_cols]
  exact congrArg₂ cols (hagree c).1 (hagree c).2

end Cert.Proof.Proj3

end
-- ==== Proof.Proj4.lean ====
/-
  The projection to the two gates: every block of the result is the product of a block of
  rows of the activations with a block of columns of the weights, which the first block of rows leaves in the scratch.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Geometry
public import Idealize.ShloMosaic.Lib.Quiescent

@[expose] public section

noncomputable section

namespace Cert.Proof.Proj4

open Cert.Kernel4Ideal Cert.Kernel4Ideal.Gen Cert.Kernel4Ideal.Value
open Idealize.ShloMosaic Idealize.ShloMosaic.TcCoe Idealize.SL.Sem
open scoped BigOperators

section AnyFloats

variable {F : FTy → Type} [FloatOps F]

theorem origin : (![0, 0] : Fin 2 → Nat) = fun _ => 0 := funext fun a => by fin_cases a <;> rfl

/-- The first block of rows leaves the block of weights in the scratch. -/
theorem scratch_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h3.read_unread, View.ld_unit_zero (S := S2048x1024) origin]

/-- The first block of rows reads those weights back. -/
theorem block_first (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : cond0_0 i)
    (x : Vec F S1024x2048 .f32) (w : Vec F S2048x1024 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S2048x1024) _ origin]
  simp only [View.readAt_eq_ld, h2.read_unread, h3.read_unread, View.ld_unit_zero (S := S1024x2048) origin, View.ld_unit_zero (S := S2048x1024) origin]

/-- A later block of rows takes the weights from the scratch. -/
theorem block_later (c : Dev nD) (i : grid0.Coords) (a2 : Memref sig .tc .vmem S1024x2048 .f32) (h2 : a2.IsWhole) (a3 : Memref sig .tc .vmem S2048x1024 .f32) (h3 : a3.IsWhole)
    (a4 : Memref sig .tc .vmem S1024x1024 .bf16) (h4 : a4.IsWhole) (a5 : Memref sig .tc .vmem S2048x1024 .bf16) (h5 : a5.IsWhole) (hc : ¬cond0_0 i)
    (x : Vec F S1024x2048 .f32) (w : Vec F S2048x1024 .f32) (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero origin]
  simp only [View.readAt_eq_ld, h2.read_unread, h5.read_unread, View.ld_unit_zero (S := S1024x2048) origin, View.ld_unit_zero (S := S2048x1024) origin]

theorem at_x : ∀ t : Fin grid0.N, win0_0.index t = ![t.val % 16, 0] := by decide +kernel
theorem at_w : ∀ t : Fin grid0.N, win0_1.index t = ![0, 7 + t.val / 16] := by decide +kernel
theorem at_o : ∀ t : Fin grid0.N, win0_2.index t = ![t.val % 16, t.val / 16] := by decide +kernel

variable (m : (ℓ : Loc nD τ sig) → Buf (Elt F) ℓ)

/-- Points of the same block of columns are given the same block of weights. -/
theorem same_weights (c : Dev nD) (t t' : Fin cfg0.N) (h : t.val / 16 = t'.val / 16) : iblk m c 1 t = iblk m c 1 t' := by
  unfold iblk
  have e : win0_1.index t = win0_1.index t' := by rw [at_w t, at_w t', h]
  funext y
  refine congrArg (V m c (Pipeline.arrRef spec0 1)) (funext fun a => Fin.ext ?_)
  match a with
  | ⟨0, _⟩ => exact congrArg (fun f : Fin 2 → ℕ => f 0 * 2048 + 1 * (y 0).val) e
  | ⟨1, _⟩ => exact congrArg (fun f : Fin 2 → ℕ => f 1 * 1024 + 1 * (y 1).val) e

/-- After every point the scratch holds the weights of the point's block of columns. -/
theorem scratch_eq (c : Dev nD) : ∀ (n : ℕ) (h : n < cfg0.N), (outsAt0 m c n h).2 = k0_pay1 (iblk m c 1 ⟨n, h⟩)
  | 0, h => by rw [outsAt0_A m c ⟨0, h⟩ rfl]; dsimp only; rw [scratch_first]
  | n + 1, h => by
    by_cases h0 : (n + 1) % 16 = 0
    · rw [outsAt0_A m c ⟨n + 1, h⟩ h0]; dsimp only; rw [scratch_first]
    · rw [outsAt0_B m c ⟨n + 1, h⟩ h0]; dsimp only; unfold sout0_B_0
      refine (scratch_eq c n (Nat.lt_of_succ_lt h)).trans ?_
      rw [same_weights m c ⟨n, Nat.lt_of_succ_lt h⟩ ⟨n + 1, h⟩ (by show n / 16 = (n + 1) / 16; omega)]

/-- After every point its block of the result is its rows times its weights. -/
theorem after_eq (c : Dev nD) (t : Fin cfg0.N) : (dats m 0 c).after 2 t = k0_pay2 (iblk m c 0 t) (k0_pay1 (iblk m c 1 t)) := by
  rw [after0_2]
  by_cases h0 : t.val % 16 = 0
  · rw [outsAt0_A m c t h0]; dsimp only; rw [block_first]
  · rw [outsAt0_B m c t h0]; dsimp only; rw [block_later]
    have hp : t.val - 1 < cfg0.N := Nat.lt_of_le_of_lt (Nat.sub_le _ _) t.isLt
    rw [scratch_eq m c (t.val - 1) hp, same_weights m c ⟨t.val - 1, hp⟩ t (by show (t.val - 1) / 16 = t.val / 16; omega)]

end AnyFloats

/-- The product's columns from the first of this projection on. -/
def cols (x : FVec Ideal S16384x2048 .f32) (w : FVec Ideal S2048x11264 .f32) : FVec Ideal S16384x4096 .bf16 :=
  fun i => ∑ k : Fin 2048, x (ix2 ⟨(i 0).val, (i 0).isLt⟩ k) * w (ix2 k ⟨7168 + (i 1).val, by have h : (i 1).val < 4096 := (i 1).isLt; omega⟩)

theorem block_apply (x : Vec Ideal S1024x2048 .f32) (w : Vec Ideal S2048x1024 .f32) (a b : Fin 1024) :
    k0_pay2 x (k0_pay1 w) (ix2 a b) = ∑ k : Fin 2048, x (ix2 a k) * w (ix2 k b) := by
  unfold k0_pay2 k0_pay1
  simp only [pointwise]
  exact zero_add _

section Result

variable (m : (ℓ : Loc nD τ sig) → Buf (Elt Ideal) ℓ)

theorem lt_points (t : Fin cfg0.N) : t.val < 64 := lt_of_lt_of_eq t.isLt N_0

/-- The two blocks a point is given, at the arguments' own rows and columns. -/
theorem read_x (c : Dev nD) (t : Fin cfg0.N) (a : Fin 1024) (k : Fin 2048) :
    iblk m c 0 t (ix2 a k) = m ((c : Thread nD τ).loc main_arg0) (ix2 ⟨1024 * (t.val % 16) + a.val, by omega⟩ k) := by
  blk_simp [iblk]
  refine congrArg (m ((c : Thread nD τ).loc main_arg0)) ?_
  blk_ext [at_x]

theorem read_w (c : Dev nD) (t : Fin cfg0.N) (k : Fin 2048) (b : Fin 1024) :
    iblk m c 1 t (ix2 k b) = m ((c : Thread nD τ).loc main_arg1) (ix2 k ⟨7168 + (1024 * (t.val / 16) + b.val), by have := lt_points t; omega⟩) := by
  blk_simp [iblk]
  refine congrArg (m ((c : Thread nD τ).loc main_arg1)) ?_
  blk_ext [at_w]

/-- The result array is the product's columns. -/
theorem result (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after_eq]
  obtain ⟨a, b, rfl⟩ : ∃ (a : Fin 1024) (b : Fin 1024), y = ix2 a b := ⟨y 0, y 1, by funext d; fin_cases d <;> rfl⟩
  have ht := lt_points t
  have he : (win0_2.blk t).view.emb (ix2 a b)
      = ix2 (⟨1024 * (t.val % 16) + a.val, by omega⟩ : Fin 16384) (⟨1024 * (t.val / 16) + b.val, by omega⟩ : Fin 4096) := by
    blk_ext [at_o]
  refine (block_apply _ _ a b).trans (Eq.trans ?_ (congrArg (cols _ _) he).symm)
  exact Finset.sum_congr rfl fun k _ => congrArg₂ (· * ·) (read_x m c t a k) (read_w m c t k b)

end Result

/-! ### The reference -/

theorem reference_cols (x : FVec Ideal Cert.Reference4Ideal.S16384x2048 .f32) (w : FVec Ideal Cert.Reference4Ideal.S2048x11264 .f32) :
    truncf .bf16 (extractStridedSlice Cert.Reference4Ideal.S16384x4096 ![0, 7168] (Host.dotGeneral Cert.Reference4Ideal.dot_S16384x2048_S2048x11264_S16384x11264_1_0_0_1_n_n none x w) Cert.Reference4Ideal.Gen.slices_S16384x11264_S16384x4096_0_7168) Cert.Reference4Ideal.Gen.bitsLt_bf16_f32
      = cols x w := by
  funext i
  obtain ⟨a, b, rfl⟩ : ∃ (a : Fin 16384) (b : Fin 4096), i = ix2 a b := ⟨i 0, i 1, by funext d; fin_cases d <;> rfl⟩
  unfold cols
  simp only [pointwise]
  refine (zero_add _).trans (Finset.sum_congr rfl fun k _ => congrArg₂ (· * ·) (congrArg x ?_) (congrArg w ?_))
  · exact congrArg (ix2 · k) (Fin.ext (Nat.zero_add _))
  · rfl

/-! ### The claims -/

theorem frame_kernel : Cert.quiescent_Kernel4 (hKernel4 := Cert.Kernel4.Gen.facts) := fun m ρ _ =>
  Cert.Kernel4.Gen.frame (F := Bits) m ρ

theorem frame_ideal : Cert.quiescent_Kernel4Ideal (hKernel4Ideal := Cert.Kernel4Ideal.Gen.facts) := fun m ρ _ =>
  Cert.Kernel4Ideal.Gen.frame (F := Ideal) m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserved : Cert.preserves_Kernel4_Kernel4Ideal := trivial

theorem same_columns : Cert.algebraic_Kernel4Ideal_Reference4Ideal (hKernel4Ideal := Cert.Kernel4Ideal.Gen.facts) (hReference4Ideal := Cert.Reference4Ideal.Gen.facts) := by
  intro m ρ m' ρ' _ hagree
  refine ⟨_, run_blocks (F := Ideal) m ρ, ?_⟩
  refine (θ_run Cert.Reference4Ideal.defs _ _).mono (fun _ h c => ⟨(h c).1.trans ?_, (h c).2⟩) (Cert.Reference4Ideal.Value.run (F := Ideal) m' ρ')
  rw [result, reference_cols]
  exact congrArg₂ cols (hagree c).1 (hagree c).2

end Cert.Proof.Proj4

end
-- ==== Proof.Rows.lean ====
/-
  What the dense parts of the block share: the logistic function, which the kernels write by a hyperbolic tangent, and the
  layer norm of a row.
-/
module

public import Idealize.ShloMosaic.PureOps.Ideal

@[expose] public section

noncomputable section

namespace Cert.Proof.Rows

open Idealize.ShloMosaic
open scoped BigOperators

/-- The logistic function as the reference writes it. -/
def gate (z : EReal) : EReal := Ideal.div 1 (1 + Ideal.exp (-z))

theorem half_eq : Ideal.ofBits .f32 1056964608#32 = (((1 / 2 : ℝ)) : EReal) := by
  simp [Ideal.ofBits, Ideal.ieee, -EReal.coe_mul]; norm_num

theorem half_tanh_real (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add]; simp
  have hp := Real.exp_pos (1 / 2 * r)
  have hn := Real.exp_pos (-(1 / 2 * r))
  rw [Real.tanh_eq_sinh_div_cosh, Real.sinh_eq, Real.cosh_eq, e]
  generalize Real.exp (1 / 2 * r) = u at *
  generalize Real.exp (-(1 / 2 * r)) = v at *
  have : u = 1 / v := by field_simp; linarith
  subst this
  field_simp
  ring

/-- The kernels' half of a hyperbolic tangent is the logistic function, at the infinities too. -/
theorem half_tanh (z : EReal) :
    Ideal.ofBits .f32 1056964608#32 * Ideal.tanh (Ideal.ofBits .f32 1056964608#32 * z) + Ideal.ofBits .f32 1056964608#32 = gate z := by
  change _ = Ideal.logistic z
  rw [half_eq]
  induction z using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    exact congrArg _ (by norm_num)
  | top =>
    rw [EReal.coe_mul_top_of_pos (by norm_num), Ideal.tanh_top, Ideal.logistic_top]
    norm_cast; norm_num
  | coe r =>
    rw [← EReal.coe_mul, Ideal.tanh_coe, Ideal.logistic_coe]
    norm_cast
    rw [half_tanh_real, one_div]

/-- The mean of a row. -/
def mean (x : Fin 2048 → EReal) : EReal := Ideal.div (∑ k, x k) (Ideal.ofBits .f32 1157627904#32)

/-- A row, normalised, scaled and shifted. -/
def norm (x g b : Fin 2048 → EReal) (j : Fin 2048) : EReal :=
  (x j - mean x) * Ideal.rsqrt (mean (fun k => (x k - mean x) * (x k - mean x)) + Ideal.ofBits .f32 925353388#32) * g j + b j

end Cert.Proof.Rows

end
-- ==== Proof.Final.lean ====
/-
  The block's last part: every row of the result is the layer norm of the residual, the feed-forward part and the gated
  embedding of that row.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Rows
public import Idealize.ShloMosaic.Lib.Pointwise
public import Idealize.ShloMosaic.Lib.Pipeline.ValueKit.Geometry
public import Idealize.ShloMosaic.Lib.Quiescent

@[expose] public section

noncomputable section

namespace Cert.Proof.Final

open Cert.Kernel5Ideal Cert.Kernel5Ideal.Gen Cert.Kernel5Ideal.Value Cert.Proof.Rows
open Idealize.ShloMosaic Idealize.ShloMosaic.TcCoe Idealize.SL.Sem
open scoped BigOperators

/-- A row before its norm, from the row's activations (the gate's and the residual's), feed-forward part and embedding. -/
def pre (xb x f : Fin 2048 → EReal) (p : Fin 256 → EReal) (wg : Fin 2048 → Fin 2048 → EReal) (wp : Fin 256 → Fin 2048 → EReal)
    (j : Fin 2048) : EReal :=
  Ideal.ofBits .f32 1066940400#32 * x j + f j + gate (∑ k, xb k * wg k j) * (∑ k, p k * wp k j)

/-- The result's array from the arguments' arrays. -/
def final (x f : FVec Ideal S16384x2048 .f32) (p : FVec Ideal S16384x256 .f32) (wg : FVec Ideal S2048x2048 .f32)
    (wp : FVec Ideal S256x2048 .f32) (g b : FVec Ideal S2048 .f32) : FVec Ideal S16384x2048 .f32 := fun i =>
  norm (pre (fun k => x (ix2 ⟨(i 0).val, (i 0).isLt⟩ k)) (fun k => x (ix2 ⟨(i 0).val, (i 0).isLt⟩ k)) (fun k => f (ix2 ⟨(i 0).val, (i 0).isLt⟩ k))
    (fun k => p (ix2 ⟨(i 0).val, (i 0).isLt⟩ k)) (fun k j => wg (ix2 k j)) (fun k j => wp (ix2 k j)))
    (fun j => g (ix1 j)) (fun j => b (ix1 j)) ⟨(i 1).val, (i 1).isLt⟩

theorem not_one_512 : ¬(512 = 1) := by decide
theorem not_one_2048 : ¬(2048 = 1) := by decide
theorem not_one_16384 : ¬(16384 = 1) := by decide

/-- A block's payload. -/
theorem block_apply (x : Vec Ideal S512x2048 .f32) (wg : Vec Ideal S2048x2048 .bf16) (p : Vec Ideal S512x256 .f32) (wp : Vec Ideal S256x2048 .bf16)
    (xb : Vec Ideal S512x2048 .bf16) (f : Vec Ideal S512x2048 .f32) (g b : Vec Ideal S1x2048 .f32) (a : Fin 512) (j : Fin 2048) :
    k0_pay1 (k0_pay2 g) (k0_pay3 b) (k0_pay4 xb wg p wp x f) (k0_pay5 xb wg p wp x f) (ix2 a j)
      = norm (pre (fun k => xb (ix2 a k)) (fun k => x (ix2 a k)) (fun k => f (ix2 a k)) (fun k => p (ix2 a k)) (fun k j => wg (ix2 k j)) (fun k j => wp (ix2 k j)))
          (fun j => g (ix2 0 j)) (fun j => b (ix2 0 j)) j := by
  unfold k0_pay1 k0_pay2 k0_pay3 k0_pay5 k0_pay4
  simp only [pointwise, not_one_512, not_one_2048, dite_false, dite_true, zero_add, half_tanh]
  rfl

theorem reference_final (m : (ℓ : Loc Cert.Reference5Ideal.nD Cert.Reference5Ideal.τ Cert.Reference5Ideal.sig) → Buf (Elt Ideal) ℓ) (c : Dev Cert.Reference5Ideal.nD) :
    Cert.Reference5Ideal.Value.res_main_v36 (F := Ideal) m c
      = final (m (c.tc.loc Cert.Reference5Ideal.main_arg0)) (m (c.tc.loc Cert.Reference5Ideal.main_arg1)) (m (c.tc.loc Cert.Reference5Ideal.main_arg2))
          (m (c.tc.loc Cert.Reference5Ideal.main_arg3)) (m (c.tc.loc Cert.Reference5Ideal.main_arg4)) (m (c.tc.loc Cert.Reference5Ideal.main_arg5))
          (m (c.tc.loc Cert.Reference5Ideal.main_arg6)) := by
  funext i
  obtain ⟨a, j, rfl⟩ : ∃ (a : Fin 16384) (j : Fin 2048), i = ix2 a j := ⟨i 0, i 1, by funext d; fin_cases d <;> rfl⟩
  unfold Cert.Reference5Ideal.Value.res_main_v36
  simp only [pointwise, not_one_16384, not_one_2048, dite_false, dite_true, zero_add]
  rfl

section Result

variable (m : (ℓ : Loc nD τ sig) → Buf (Elt Ideal) ℓ)

/-! The arrays that the host prepares: casts and rows, over the reals the arguments themselves. -/

theorem row_apply (x : Vec Ideal S2048 .f32) (j : Fin 2048) : shapeCast S1x2048 x shapeCasts_S2048_S1x2048 (ix2 0 j) = x (ix1 j) := by
  simp only [pointwise]

theorem V_x (c : Dev nD) : (V m c main_v0 : Vec Ideal S16384x2048 .bf16) = m ((c : Thread nD τ).loc main_arg0) := by
  unfold V; after_results; rfl
theorem V_wg (c : Dev nD) : (V m c main_v1 : Vec Ideal S2048x2048 .bf16) = m ((c : Thread nD τ).loc main_arg3) := by
  unfold V; after_results; rfl
theorem V_wp (c : Dev nD) : (V m c main_v2 : Vec Ideal S256x2048 .bf16) = m ((c : Thread nD τ).loc main_arg4) := by
  unfold V; after_results; rfl
theorem V_g (c : Dev nD) (j : Fin 2048) : (V m c main_v3 : Vec Ideal S1x2048 .f32) (ix2 0 j) = m ((c : Thread nD τ).loc main_arg5) (ix1 j) := by
  unfold V; after_results
  exact row_apply _ j
theorem V_b (c : Dev nD) (j : Fin 2048) : (V m c main_v4 : Vec Ideal S1x2048 .f32) (ix2 0 j) = m ((c : Thread nD τ).loc main_arg6) (ix1 j) := by
  unfold V; after_results
  exact row_apply _ j

theorem at_row : ∀ t : Fin grid0.N, win0_0.index t = ![t.val, 0] := by decide +kernel
theorem at_row1 : ∀ t : Fin grid0.N, win0_1.index t = ![t.val, 0] := by decide +kernel
theorem at_row2 : ∀ t : Fin grid0.N, win0_2.index t = ![t.val, 0] := by decide +kernel
theorem at_row3 : ∀ t : Fin grid0.N, win0_3.index t = ![t.val, 0] := by decide +kernel
theorem at_all4 : ∀ t : Fin grid0.N, win0_4.index t = ![0, 0] := by decide +kernel
theorem at_all5 : ∀ t : Fin grid0.N, win0_5.index t = ![0, 0] := by decide +kernel
theorem at_all6 : ∀ t : Fin grid0.N, win0_6.index t = ![0, 0] := by decide +kernel
theorem at_all7 : ∀ t : Fin grid0.N, win0_7.index t = ![0, 0] := by decide +kernel
theorem at_out : ∀ t : Fin grid0.N, win0_8.index t = ![t.val, 0] := by decide +kernel

theorem lt_points (t : Fin cfg0.N) : t.val < 32 := lt_of_lt_of_eq t.isLt N_0

/-- The row of the arrays that a row of a point's block is. -/
def row (t : Fin cfg0.N) (a : Fin 512) : Fin 16384 := ⟨512 * t.val + a.val, by have := lt_points t; omega⟩

theorem read_x (c : Dev nD) (t : Fin cfg0.N) (a : Fin 512) (k : Fin 2048) :
    iblk m c 0 t (ix2 a k) = m ((c : Thread nD τ).loc main_arg0) (ix2 (row t a) k) := by
  refine Eq.trans ?_ (congrFun (V_main_arg0 m c) _)
  blk_simp [iblk]
  refine congrArg (V m c main_arg0) ?_
  blk_ext [at_row, row]
theorem read_xb (c : Dev nD) (t : Fin cfg0.N) (a : Fin 512) (k : Fin 2048) :
    iblk m c 1 t (ix2 a k) = m ((c : Thread nD τ).loc main_arg0) (ix2 (row t a) k) := by
  refine Eq.trans ?_ (congrFun (V_x m c) _)
  blk_simp [iblk]
  refine congrArg (V m c main_v0) ?_
  blk_ext [at_row1, row]
theorem read_f (c : Dev nD) (t : Fin cfg0.N) (a : Fin 512) (k : Fin 2048) :
    iblk m c 2 t (ix2 a k) = m ((c : Thread nD τ).loc main_arg1) (ix2 (row t a) k) := by
  refine Eq.trans ?_ (congrFun (V_main_arg1 m c) _)
  blk_simp [iblk]
  refine congrArg (V m c main_arg1) ?_
  blk_ext [at_row2, row]
theorem read_p (c : Dev nD) (t : Fin cfg0.N) (a : Fin 512) (k : Fin 256) :
    iblk m c 3 t (ix2 a k) = m ((c : Thread nD τ).loc main_arg2) (ix2 (row t a) k) := by
  refine Eq.trans ?_ (congrFun (V_main_arg2 m c) _)
  blk_simp [iblk]
  refine congrArg (V m c main_arg2) ?_
  blk_ext [at_row3, row]
theorem read_wg (c : Dev nD) (t : Fin cfg0.N) (k j : Fin 2048) :
    iblk m c 4 t (ix2 k j) = m ((c : Thread nD τ).loc main_arg3) (ix2 k j) := by
  refine Eq.trans ?_ (congrFun (V_wg m c) _)
  blk_simp [iblk]
  refine congrArg (V m c main_v1) ?_
  blk_ext [at_all4]
theorem read_wp (c : Dev nD) (t : Fin cfg0.N) (k : Fin 256) (j : Fin 2048) :
    iblk m c 5 t (ix2 k j) = m ((c : Thread nD τ).loc main_arg4) (ix2 k j) := by
  refine Eq.trans ?_ (congrFun (V_wp m c) _)
  blk_simp [iblk]
  refine congrArg (V m c main_v2) ?_
  blk_ext [at_all5]
theorem read_g (c : Dev nD) (t : Fin cfg0.N) (j : Fin 2048) :
    iblk m c 6 t (ix2 0 j) = m ((c : Thread nD τ).loc main_arg5) (ix1 j) := by
  refine Eq.trans ?_ (V_g m c j)
  blk_simp [iblk]
  refine congrArg (V m c main_v3) ?_
  blk_ext [at_all6]
theorem read_b (c : Dev nD) (t : Fin cfg0.N) (j : Fin 2048) :
    iblk m c 7 t (ix2 0 j) = m ((c : Thread nD τ).loc main_arg6) (ix1 j) := by
  refine Eq.trans ?_ (V_b m c j)
  blk_simp [iblk]
  refine congrArg (V m c main_v4) ?_
  blk_ext [at_all7]

theorem origin : (![0, 0] : Fin 2 → Nat) = fun _ => 0 := funext fun a => by fin_cases a <;> rfl

/-- The result array is the layer norm, row by row. -/
theorem result (c : Dev nD) : (dats m 0 c).arrAt 8 cfg0.N
    = final (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  obtain ⟨a, j, rfl⟩ : ∃ (a : Fin 512) (j : Fin 2048), y = ix2 a j := ⟨y 0, y 1, by funext d; fin_cases d <;> rfl⟩
  have he : (win0_8.blk t).view.emb (ix2 a j) = ix2 (row t a) j := by
    blk_ext [at_out, row]
  unfold out0_8
  rw [View.canon_unit_zero origin]
  simp only [View.ld_unit_zero (S := S512x2048) origin, View.ld_unit_zero (S := S512x256) origin, View.ld_unit_zero (S := S2048x2048) origin,
    View.ld_unit_zero (S := S256x2048) origin, View.ld_unit_zero (S := S1x2048) origin]
  refine (block_apply _ _ _ _ _ _ _ _ a j).trans (Eq.trans ?_ (congrArg (final _ _ _ _ _ _ _) he).symm)
  simp only [read_x, read_xb, read_f, read_p, read_wg, read_wp, read_g, read_b]
  rfl

end Result

/-! ### The claims -/

theorem frame_kernel : Cert.quiescent_Kernel5 (hKernel5 := Cert.Kernel5.Gen.facts) := fun m ρ _ =>
  Cert.Kernel5.Gen.frame (F := Bits) m ρ

theorem frame_ideal : Cert.quiescent_Kernel5Ideal (hKernel5Ideal := Cert.Kernel5Ideal.Gen.facts) := fun m ρ _ =>
  Cert.Kernel5Ideal.Gen.frame (F := Ideal) m ρ

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserved : Cert.preserves_Kernel5_Kernel5Ideal := trivial

theorem same_rows : Cert.algebraic_Kernel5Ideal_Reference5Ideal (hKernel5Ideal := Cert.Kernel5Ideal.Gen.facts) (hReference5Ideal := Cert.Reference5Ideal.Gen.facts) := by
  intro m ρ m' ρ' _ hagree
  refine ⟨_, run_blocks (F := Ideal) m ρ, ?_⟩
  refine (θ_run Cert.Reference5Ideal.defs _ _).mono (fun _ h c => ⟨(h c).1.trans ?_, (h c).2⟩) (Cert.Reference5Ideal.Value.run (F := Ideal) m' ρ')
  rw [result, reference_final]
  obtain ⟨h0, h1, h2, h3, h4, h5, h6⟩ := hagree c
  exact congr (congr (congr (congr (congr (congrArg₂ final h0 h1) h2) h3) h4) h5) h6

end Cert.Proof.Final

end
-- ==== Proof.MixRows.lean ====
/-
  The mixing part's rows: the group norm of every head of the time mixing, and the gated sum of both mixers.
-/
module

public import proofs.«01_k».proof.Proof.Rows

@[expose] public section

noncomputable section

namespace Cert.Proof.Mix

open Idealize.ShloMosaic Cert.Proof.Rows
open scoped BigOperators

/-- The mean of a head's features. -/
def headMean (y : Fin 64 → EReal) : EReal := Ideal.div (∑ d, y d) (Ideal.ofBits .f32 1115684864#32)

/-- A feature `v` of a head `y`, normalised over the head, scaled, shifted and gated. -/
def headNorm (v : EReal) (y : Fin 64 → EReal) (w b bon g : EReal) : EReal :=
  ((v - headMean y) * Ideal.rsqrt (headMean (fun e => (y e - headMean y) * (y e - headMean y)) + Ideal.ofBits .f32 975685036#32) * w + b + bon) * g

/-- A row of all heads. -/
def heads (y w b bon g : Fin 1024 → EReal) (l : Fin 1024) : EReal :=
  headNorm (y l) (fun d => y ⟨l.val / 64 * 64 + d.val, by omega⟩) (w l) (b l) (bon l) (g l)

/-- A row before its layer norm. -/
def pre (att hd : Fin 1024 → EReal) (gates : Fin 4096 → EReal) (x : Fin 2048 → EReal) (wa wb : Fin 1024 → Fin 2048 → EReal)
    (wo : Fin 2048 → Fin 2048 → EReal) (j : Fin 2048) : EReal :=
  Ideal.ofBits .f32 1066940400#32 * x j
    + ∑ k : Fin 2048, (gate (gates ⟨k.val, by omega⟩) * (∑ i, att i * wa i k) + gate (gates ⟨2048 + k.val, by omega⟩) * (∑ i, hd i * wb i k)) * wo k j

/-- The row of the result. -/
def mixRow (att y bon g : Fin 1024 → EReal) (gates : Fin 4096 → EReal) (x : Fin 2048 → EReal) (gw gb : Fin 1024 → EReal)
    (wa wb : Fin 1024 → Fin 2048 → EReal) (wo : Fin 2048 → Fin 2048 → EReal) (lw lb : Fin 2048 → EReal) : Fin 2048 → EReal :=
  norm (pre att (heads y gw gb bon g) gates x wa wb wo) lw lb

theorem sixtyfour_eq : Ideal.ofBits .f32 1115684864#32 = ((64 : ℝ) : EReal) := by
  simp [Ideal.ofBits, Ideal.ieee, -EReal.coe_mul]; norm_num

theorem inverse_eq : Ideal.ofBits .f32 1015021568#32 = ((1 / 64 : ℝ) : EReal) := by
  simp [Ideal.ofBits, Ideal.ieee, -EReal.coe_mul]; norm_num

/-- Multiplying by the sixty-fourth part is dividing by 64. -/
theorem mul_inverse (s : EReal) : s * Ideal.ofBits .f32 1015021568#32 = Ideal.div s (Ideal.ofBits .f32 1115684864#32) := by
  rw [inverse_eq, sixtyfour_eq, Ideal.div, if_neg (by norm_cast), ← EReal.coe_inv, one_div]

end Cert.Proof.Mix

end
-- ==== Proof.MixHeads.lean ====
/-
  The mixing kernel's block of all heads: eight pieces of 128 lanes, each of two heads whose sums a matrix of ones takes.
-/
module

public import proofs.«01_k».proof.Defs
public import proofs.«01_k».proof.Proof.Gen.Kernel6Ideal.Value
public import proofs.«01_k».proof.Proof.MixRows
public import proofs.«01_k».proof.Proof.Spec
public import Idealize.ShloMosaic.Lib.Pointwise
public import Idealize.ShloMosaic.Lib.Pipeline.ValueKit.Geometry

@[expose] public section

noncomputable section

namespace Cert.Proof.Mix

open Cert.Kernel6Ideal Cert.Kernel6Ideal.Gen Cert.Kernel6Ideal.Value Cert.Proof.Rows
open Idealize.ShloMosaic Idealize.ShloMosaic.TcCoe Idealize.SL.Sem
open scoped BigOperators

theorem ones_bit : ∀ k j : Fin 128,
    IntOp.xori (IntOp.xori (IntOp.cmpi CmpIPredicate.slt (BitVec.ofNat 32 k.val) 64#32) (IntOp.cmpi CmpIPredicate.slt (BitVec.ofNat 32 j.val) 64#32)) 1#1
      = if k.val / 64 = j.val / 64 then 1#1 else 0#1 := by decide +kernel

/-- The matrix of ones: one where both lanes are of the same head. -/
theorem ones_apply (k j : Fin 128) : k0_pay1 (F := Ideal) (ix2 k j) = if k.val / 64 = j.val / 64 then 1 else 0 := by
  unfold k0_pay1
  simp only [pointwise, List.foldl, zero_mul, zero_add]
  refine (congrArg (fun q => Scalar.select q (1 : EReal) 0) (ones_bit k j)).trans ?_
  split <;> rfl

/-- A sum over the lanes of a lane's head. -/
theorem masked_sum (f : Fin 128 → EReal) (j : Fin 128) :
    (∑ k : Fin 128, f k * (if k.val / 64 = j.val / 64 then 1 else 0)) = ∑ d : Fin 64, f ⟨j.val / 64 * 64 + d.val, by omega⟩ := by
  simp only [mul_ite, mul_one, mul_zero]
  refine (Cert.Proof.Sb.sum_half ⟨j.val / 64, by omega⟩ f).trans (Finset.sum_congr rfl fun d _ => congrArg f (Fin.ext ?_))
  show 64 * (j.val / 64) + d.val = j.val / 64 * 64 + d.val
  omega

theorem same_head (j : Fin 128) (d : Fin 64) : (j.val / 64 * 64 + d.val) / 64 = j.val / 64 := by omega

/-- A piece of two heads. -/
theorem piece_apply (y : Vec Ideal S256x128 .f32) (w b : Vec Ideal S1x128 .f32) (bon g : Vec Ideal S256x128 .bf16) (a : Fin 256) (j : Fin 128) :
    k0_pay4 (F := Ideal) k0_pay1 y w b bon g (ix2 a j)
      = headNorm (y (ix2 a j)) (fun d => y (ix2 a ⟨j.val / 64 * 64 + d.val, by omega⟩)) (w (ix2 0 j)) (b (ix2 0 j)) (bon (ix2 a j)) (g (ix2 a j)) := by
  unfold k0_pay4
  simp only [pointwise, ones_apply, zero_add, masked_sum, mul_inverse, same_head]
  rfl

theorem ld_rows {e : EltTy} (x : Vec Ideal S256x1024 e) (o : Nat) (h) (ho : o + 128 ≤ 1024) (a : Fin 256) (j : Fin 128) :
    View.ld x (Rect.unit (s := S256x1024) ![0, o] S256x128.size h) (ix2 a j) = x (ix2 a ⟨o + j.val, by omega⟩) := by
  refine congrArg x (funext fun d => Fin.ext ?_)
  fin_cases d
  · show 0 + 1 * a.val = a.val
    omega
  · show o + 1 * j.val = o + j.val
    omega

theorem ld_row {e : EltTy} (x : Vec Ideal S1x1024 e) (o : Nat) (h) (ho : o + 128 ≤ 1024) (j : Fin 128) :
    View.ld x (Rect.unit (s := S1x1024) ![0, o] S1x128.size h) (ix2 0 j) = x (ix2 0 ⟨o + j.val, by omega⟩) := by
  refine congrArg x (funext fun d => Fin.ext ?_)
  fin_cases d
  · show 0 + 1 * 0 = 0
    omega
  · show o + 1 * j.val = o + j.val
    omega

/-- A piece of the heads from the block's lanes at an offset. -/
theorem piece_heads (x1 : Vec Ideal S256x1024 .f32) (x6 x7 : Vec Ideal S1x1024 .f32) (x2 x3 : Vec Ideal S256x1024 .bf16) (o : Nat) (h h')
    (ho : o + 128 ≤ 1024) (hd : o % 64 = 0) (a : Fin 256) (j : Fin 128) (l : Fin 1024) (hl : l.val = o + j.val) :
    k0_pay4 (F := Ideal) k0_pay1 (View.ld x1 (Rect.unit (s := S256x1024) ![0, o] S256x128.size h)) (View.ld x6 (Rect.unit (s := S1x1024) ![0, o] S1x128.size h'))
        (View.ld x7 (Rect.unit (s := S1x1024) ![0, o] S1x128.size h')) (View.ld x2 (Rect.unit (s := S256x1024) ![0, o] S256x128.size h))
        (View.ld x3 (Rect.unit (s := S256x1024) ![0, o] S256x128.size h)) (ix2 a j)
      = heads (fun k => x1 (ix2 a k)) (fun k => x6 (ix2 0 k)) (fun k => x7 (ix2 0 k)) (fun k => x2 (ix2 a k)) (fun k => x3 (ix2 a k)) l := by
  obtain ⟨l, hlt⟩ := l
  change l = o + j.val at hl
  subst hl
  rw [piece_apply, ld_rows x2 o h ho, ld_rows x3 o h ho, ld_row x6 o h' ho, ld_row x7 o h' ho, ld_rows x1 o h ho]
  unfold heads
  refine congrArg (fun y => headNorm _ y _ _ _ _) (funext fun d => ?_)
  rw [ld_rows x1 o h ho]
  refine congrArg (fun k => x1 (ix2 a k)) (Fin.ext ?_)
  show o + (j.val / 64 * 64 + d.val) = (o + j.val) / 64 * 64 + d.val
  omega

/-- The block of all heads. -/
def headsBlock (x1 : Vec Ideal S256x1024 .f32) (x6 x7 : Vec Ideal S1x1024 .f32) (x2 x3 : Vec Ideal S256x1024 .bf16) : Vec Ideal S256x1024 .bf16 :=
  concatenate S256x1024 1
    [⟨S256x128, k0_pay4 k0_pay1 (View.ld x1 r0_0) (View.ld x6 r0_1) (View.ld x7 r0_1) (View.ld x2 r0_0) (View.ld x3 r0_0)⟩,
     ⟨S256x128, k0_pay4 k0_pay1 (View.ld x1 r0_2) (View.ld x6 r0_3) (View.ld x7 r0_3) (View.ld x2 r0_2) (View.ld x3 r0_2)⟩,
     ⟨S256x128, k0_pay4 k0_pay1 (View.ld x1 r0_4) (View.ld x6 r0_5) (View.ld x7 r0_5) (View.ld x2 r0_4) (View.ld x3 r0_4)⟩,
     ⟨S256x128, k0_pay4 k0_pay1 (View.ld x1 r0_6) (View.ld x6 r0_7) (View.ld x7 r0_7) (View.ld x2 r0_6) (View.ld x3 r0_6)⟩,
     ⟨S256x128, k0_pay4 k0_pay1 (View.ld x1 r0_8) (View.ld x6 r0_9) (View.ld x7 r0_9) (View.ld x2 r0_8) (View.ld x3 r0_8)⟩,
     ⟨S256x128, k0_pay4 k0_pay1 (View.ld x1 r0_10) (View.ld x6 r0_11) (View.ld x7 r0_11) (View.ld x2 r0_10) (View.ld x3 r0_10)⟩,
     ⟨S256x128, k0_pay4 k0_pay1 (View.ld x1 r0_12) (View.ld x6 r0_13) (View.ld x7 r0_13) (View.ld x2 r0_12) (View.ld x3 r0_12)⟩,
     ⟨S256x128, k0_pay4 k0_pay1 (View.ld x1 r0_14) (View.ld x6 r0_15) (View.ld x7 r0_15) (View.ld x2 r0_14) (View.ld x3 r0_14)⟩]
    concatenates_S256x128_S256x128_S256x128_S256x128_S256x128_S256x128_S256x128_S256x128_S256x1024_d1

theorem headsBlock_apply (x1 : Vec Ideal S256x1024 .f32) (x6 x7 : Vec Ideal S1x1024 .f32) (x2 x3 : Vec Ideal S256x1024 .bf16) (a : Fin 256) (l : Fin 1024) :
    headsBlock x1 x6 x7 x2 x3 (ix2 a l)
      = heads (fun k => x1 (ix2 a k)) (fun k => x6 (ix2 0 k)) (fun k => x7 (ix2 0 k)) (fun k => x2 (ix2 a k)) (fun k => x3 (ix2 a k)) l := by
  unfold headsBlock
  simp only [pointwise, Matrix.cons_val_zero, Matrix.cons_val_one]
  split
  · exact piece_heads x1 x6 x7 x2 x3 0 _ _ (by omega) (by omega) a ⟨l.val, by assumption⟩ l (by show l.val = 0 + l.val; omega)
  split
  · exact piece_heads x1 x6 x7 x2 x3 128 _ _ (by omega) (by omega) a ⟨l.val - 128, by assumption⟩ l (by show l.val = 128 + (l.val - 128); omega)
  split
  · exact piece_heads x1 x6 x7 x2 x3 256 _ _ (by omega) (by omega) a ⟨l.val - 128 - 128, by assumption⟩ l (by show l.val = 256 + (l.val - 128 - 128); omega)
  split
  · exact piece_heads x1 x6 x7 x2 x3 384 _ _ (by omega) (by omega) a ⟨l.val - 128 - 128 - 128, by assumption⟩ l (by show l.val = 384 + (l.val - 128 - 128 - 128); omega)
  split
  · exact piece_heads x1 x6 x7 x2 x3 512 _ _ (by omega) (by omega) a ⟨l.val - 128 - 128 - 128 - 128, by assumption⟩ l (by show l.val = 512 + (l.val - 128 - 128 - 128 - 128); omega)
  split
  · exact piece_heads x1 x6 x7 x2 x3 640 _ _ (by omega) (by omega) a ⟨l.val - 128 - 128 - 128 - 128 - 128, by assumption⟩ l (by show l.val = 640 + (l.val - 128 - 128 - 128 - 128 - 128); omega)
  split
  · exact piece_heads x1 x6 x7 x2 x3 768 _ _ (by omega) (by omega) a ⟨l.val - 128 - 128 - 128 - 128 - 128 - 128, by assumption⟩ l (by show l.val = 768 + (l.val - 128 - 128 - 128 - 128 - 128 - 128); omega)
  · exact piece_heads x1 x6 x7 x2 x3 896 _ _ (by omega) (by omega) a ⟨l.val - 128 - 128 - 128 - 128 - 128 - 128 - 128, by omega⟩ l (by show l.val = 896 + (l.val - 128 - 128 - 128 - 128 - 128 - 128 - 128); omega)

/-- The kernel's second mixer: the block of all heads times its weights. -/
theorem second_eq (x0 : Vec Ideal S256x1024 .bf16) (x1 : Vec Ideal S256x1024 .f32) (x2 x3 : Vec Ideal S256x1024 .bf16) (x4 : Vec Ideal S256x4096 .bf16)
    (x5 : Vec Ideal S256x2048 .f32) (x6 x7 : Vec Ideal S1x1024 .f32) (x8 x9 : Vec Ideal S1024x2048 .bf16) (x10 : Vec Ideal S2048x2048 .bf16) (x11 x12 : Vec Ideal S1x2048 .f32) :
    k0_pay27 x0 x1 x2 x3 x4 x5 x6 x7 x8 x9 x10 x11 x12 = k0_pay19 (headsBlock x1 x6 x7 x2 x3) (View.ld x9 r0_17) := rfl

end Cert.Proof.Mix

end
-- ==== Proof.MixReference.lean ====
/-
  The reference's mixing part: its group norm, its mixed rows and its layer norm, each as the rows' definitions say.
-/
module

public import proofs.«01_k».proof.Defs
public import proofs.«01_k».proof.Proof.Gen.Reference6Ideal.Run
public import proofs.«01_k».proof.Proof.MixRows
public import Idealize.ShloMosaic.Lib.Pointwise

@[expose] public section

noncomputable section

namespace Cert.Proof.MixReference

open Cert.Reference6Ideal Cert.Reference6Ideal.Gen Cert.Reference6Ideal.Value Cert.Proof.Rows Cert.Proof.Mix
open Idealize.ShloMosaic Idealize.ShloMosaic.TcCoe Idealize.SL.Sem
open scoped BigOperators

/-! The reference's arrays, part by part. -/

def meanOfHeads (y : FVec Ideal S16384x16x64 .f32) : FVec Ideal S16384x16x1 .f32 :=
  Host.divf (broadcastInDim S16384x16x1 ![0, 1] bcast_S16384x16_S16384x16x1_0_1 (Host.reduceAdd y (constant S_ .f32 0x00000000#32) reducesTo_S16384x16x64_S16384x16_d2 h_S_)) (broadcastInDim S16384x16x1 ![] bcast_S_S16384x16x1 (constant S_ .f32 0x42800000#32))

def off (y : FVec Ideal S16384x16x64 .f32) : FVec Ideal S16384x16x64 .f32 :=
  subf y (broadcastInDim S16384x16x64 ![0, 1, 2] bcast_S16384x16x1_S16384x16x64_0_1_2 (meanOfHeads y))

def headsOf (y : FVec Ideal S16384x1024 .f32) (gw gb : FVec Ideal S1024 .f32) (bon g : FVec Ideal S16384x1024 .bf16) : FVec Ideal S16384x1024 .f32 :=
  mulf (addf (addf (mulf (shapeCast S16384x1024 (mulf (off (shapeCast S16384x16x64 y shapeCasts_S16384x1024_S16384x16x64)) (broadcastInDim S16384x16x64 ![0, 1, 2] bcast_S16384x16x1_S16384x16x64_0_1_2 (Host.rsqrt (addf (meanOfHeads (mulf (off (shapeCast S16384x16x64 y shapeCasts_S16384x1024_S16384x16x64)) (off (shapeCast S16384x16x64 y shapeCasts_S16384x1024_S16384x16x64)))) (broadcastInDim S16384x16x1 ![] bcast_S_S16384x16x1 (constant S_ .f32 0x3A27C5AC#32)))))) shapeCasts_S16384x16x64_S16384x1024) (broadcastInDim S16384x1024 ![0, 1] bcast_S1x1024_S16384x1024_0_1 (broadcastInDim S1x1024 ![1] bcast_S1024_S1x1024_1 gw))) (broadcastInDim S16384x1024 ![0, 1] bcast_S1x1024_S16384x1024_0_1 (broadcastInDim S1x1024 ![1] bcast_S1024_S1x1024_1 gb))) (extf .f32 bon bitsLt_bf16_f32)) (extf .f32 g bitsLt_bf16_f32)

def preOf (ya : FVec Ideal S16384x1024 .bf16) (hd : FVec Ideal S16384x1024 .f32) (gates : FVec Ideal S16384x4096 .bf16)
    (x : FVec Ideal S16384x2048 .f32) (wa wb : FVec Ideal S1024x2048 .f32) (wo : FVec Ideal S2048x2048 .f32) : FVec Ideal S16384x2048 .f32 :=
  addf (mulf (broadcastInDim S16384x2048 ![] bcast_S_S16384x2048 (constant S_ .f32 0x3F9837F0#32)) x) (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 0] (extf .f32 gates bitsLt_bf16_f32) slices_S16384x4096_S16384x2048_0_0))))) (Host.dotGeneral dot_S16384x1024_S1024x2048_S16384x2048_1_0_0_1_n_n none (extf .f32 ya bitsLt_bf16_f32) wa)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] (extf .f32 gates bitsLt_bf16_f32) slices_S16384x4096_S16384x2048_0_2048))))) (Host.dotGeneral dot_S16384x1024_S1024x2048_S16384x2048_1_0_0_1_n_n none hd wb))) wo)

def meanOfRows (p : FVec Ideal S16384x2048 .f32) : FVec Ideal S16384x1 .f32 :=
  Host.divf (broadcastInDim S16384x1 ![0] bcast_S16384_S16384x1_0 (Host.reduceAdd p (constant S_ .f32 0x00000000#32) reducesTo_S16384x2048_S16384_d1 h_S_)) (broadcastInDim S16384x1 ![] bcast_S_S16384x1 (constant S_ .f32 0x45000000#32))

def offRows (p : FVec Ideal S16384x2048 .f32) : FVec Ideal S16384x2048 .f32 :=
  subf p (broadcastInDim S16384x2048 ![0, 1] bcast_S16384x1_S16384x2048_0_1 (meanOfRows p))

def normOf (p : FVec Ideal S16384x2048 .f32) (lw lb : FVec Ideal S2048 .f32) : FVec Ideal S16384x2048 .f32 :=
  addf (mulf (mulf (offRows p) (broadcastInDim S16384x2048 ![0, 1] bcast_S16384x1_S16384x2048_0_1 (Host.rsqrt (addf (meanOfRows (mulf (offRows p) (offRows p))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 lw))) (broadcastInDim S16384x2048 ![0, 1] bcast_S1x2048_S16384x2048_0_1 (broadcastInDim S1x2048 ![1] bcast_S2048_S1x2048_1 lb))

theorem not_one_16384 : ¬(16384 = 1) := by decide
theorem not_one_2048 : ¬(2048 = 1) := by decide
theorem not_one_1024 : ¬(1024 = 1) := by decide
theorem not_one_64 : ¬(64 = 1) := by decide
theorem not_one_16 : ¬(16 = 1) := by decide

theorem headsOf_apply (y : FVec Ideal S16384x1024 .f32) (gw gb : FVec Ideal S1024 .f32) (bon g : FVec Ideal S16384x1024 .bf16) (a : Fin 16384) (l : Fin 1024) :
    headsOf y gw gb bon g (ix2 a l)
      = heads (fun k => y (ix2 a k)) (fun k => gw (ix1 k)) (fun k => gb (ix1 k)) (fun k => bon (ix2 a k)) (fun k => g (ix2 a k)) l := by
  unfold headsOf off meanOfHeads
  simp only [pointwise, not_one_16384, not_one_1024, not_one_64, not_one_16, dite_false, dite_true, zero_add]
  rfl

theorem preOf_apply (ya : FVec Ideal S16384x1024 .bf16) (hd : FVec Ideal S16384x1024 .f32) (gates : FVec Ideal S16384x4096 .bf16)
    (x : FVec Ideal S16384x2048 .f32) (wa wb : FVec Ideal S1024x2048 .f32) (wo : FVec Ideal S2048x2048 .f32) (a : Fin 16384) (j : Fin 2048) :
    preOf ya hd gates x wa wb wo (ix2 a j)
      = pre (fun k => ya (ix2 a k)) (fun k => hd (ix2 a k)) (fun k => gates (ix2 a k)) (fun k => x (ix2 a k)) (fun k j => wa (ix2 k j)) (fun k j => wb (ix2 k j))
          (fun k j => wo (ix2 k j)) j := by
  unfold preOf
  simp only [pointwise, not_one_16384, not_one_2048, dite_false, dite_true, zero_add, Matrix.cons_val_zero, Matrix.cons_val_one, Fin.eta]
  rfl

theorem normOf_apply (p : FVec Ideal S16384x2048 .f32) (lw lb : FVec Ideal S2048 .f32) (a : Fin 16384) (j : Fin 2048) :
    normOf p lw lb (ix2 a j) = norm (fun k => p (ix2 a k)) (fun k => lw (ix1 k)) (fun k => lb (ix1 k)) j := by
  unfold normOf offRows meanOfRows
  simp only [pointwise, not_one_16384, not_one_2048, dite_false, dite_true, zero_add]
  rfl

/-- The result's array from the arguments' arrays. -/
def mixed (ya : FVec Ideal S16384x1024 .bf16) (y : FVec Ideal S16384x1024 .f32) (bon g : FVec Ideal S16384x1024 .bf16) (gates : FVec Ideal S16384x4096 .bf16)
    (x : FVec Ideal S16384x2048 .f32) (gw gb : FVec Ideal S1024 .f32) (wa wb : FVec Ideal S1024x2048 .f32) (wo : FVec Ideal S2048x2048 .f32)
    (lw lb : FVec Ideal S2048 .f32) : FVec Ideal S16384x2048 .f32 := fun i =>
  mixRow (fun k => ya (ix2 ⟨(i 0).val, (i 0).isLt⟩ k)) (fun k => y (ix2 ⟨(i 0).val, (i 0).isLt⟩ k)) (fun k => bon (ix2 ⟨(i 0).val, (i 0).isLt⟩ k))
    (fun k => g (ix2 ⟨(i 0).val, (i 0).isLt⟩ k)) (fun k => gates (ix2 ⟨(i 0).val, (i 0).isLt⟩ k)) (fun k => x (ix2 ⟨(i 0).val, (i 0).isLt⟩ k))
    (fun k => gw (ix1 k)) (fun k => gb (ix1 k)) (fun k j => wa (ix2 k j)) (fun k j => wb (ix2 k j)) (fun k j => wo (ix2 k j))
    (fun k => lw (ix1 k)) (fun k => lb (ix1 k)) ⟨(i 1).val, (i 1).isLt⟩

theorem parts_mixed (ya : FVec Ideal S16384x1024 .bf16) (y : FVec Ideal S16384x1024 .f32) (bon g : FVec Ideal S16384x1024 .bf16) (gates : FVec Ideal S16384x4096 .bf16)
    (x : FVec Ideal S16384x2048 .f32) (gw gb : FVec Ideal S1024 .f32) (wa wb : FVec Ideal S1024x2048 .f32) (wo : FVec Ideal S2048x2048 .f32)
    (lw lb : FVec Ideal S2048 .f32) :
    normOf (preOf ya (headsOf y gw gb bon g) gates x wa wb wo) lw lb = mixed ya y bon g gates x gw gb wa wb wo lw lb := by
  funext i
  obtain ⟨a, j, rfl⟩ : ∃ (a : Fin 16384) (j : Fin 2048), i = ix2 a j := ⟨i 0, i 1, by funext d; fin_cases d <;> rfl⟩
  rw [normOf_apply]
  simp only [preOf_apply, headsOf_apply]
  rfl

variable (m : (ℓ : Loc nD τ sig) → Buf (Elt Ideal) ℓ) (c : Dev nD)

theorem reference_mixed : res_main_v78 (F := Ideal) m c
    = mixed (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9))
        (m (c.tc.loc main_arg10)) (m (c.tc.loc main_arg11)) (m (c.tc.loc main_arg12)) :=
  Eq.trans (by unfold res_main_v78 normOf offRows meanOfRows preOf headsOf off meanOfHeads; rfl) (parts_mixed _ _ _ _ _ _ _ _ _ _ _ _ _)

theorem reference_copy : res_main_v79 (F := Ideal) m c = res_main_v78 (F := Ideal) m c := by
  unfold res_main_v79 res_main_v78
  rfl

end Cert.Proof.MixReference

end
-- ==== Proof.Mix.lean ====
/-
  The mixing of both mixers: every row of the result is the layer norm of the residual and of the gated, projected sum of
  the attention's row and the time mixing's normalised row.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.MixHeads
public import proofs.«01_k».proof.Proof.MixReference
public import Idealize.ShloMosaic.Lib.Pointwise
public import Idealize.ShloMosaic.Lib.Pipeline.ValueKit.Geometry
public import Idealize.ShloMosaic.Lib.Quiescent

@[expose] public section

noncomputable section

namespace Cert.Proof.Mix

open Cert.Kernel6Ideal Cert.Kernel6Ideal.Gen Cert.Kernel6Ideal.Value Cert.Proof.Rows
open Cert.Proof.MixReference (mixed reference_mixed reference_copy)
open Idealize.ShloMosaic Idealize.ShloMosaic.TcCoe Idealize.SL.Sem
open scoped BigOperators

/-! ### The block's payloads -/

theorem project_apply (x : Vec Ideal S256x1024 .bf16) (w : Vec Ideal S1024x2048 .bf16) (a : Fin 256) (j : Fin 2048) :
    k0_pay19 x w (ix2 a j) = ∑ k : Fin 1024, x (ix2 a k) * w (ix2 k j) := by
  unfold k0_pay19
  simp only [pointwise, zero_add]

theorem gate_apply (z : Vec Ideal S256x2048 .bf16) (a : Fin 256) (j : Fin 2048) : k0_pay21 z (ix2 a j) = gate (z (ix2 a j)) := by
  unfold k0_pay21
  simp only [pointwise, half_tanh]

theorem half_gate_apply (z : Vec Ideal S256x2048 .bf16) (a : Fin 256) (j : Fin 2048) :
    k0_pay22 z (ix2 a j) + Ideal.ofBits .f32 1056964608#32 = gate (z (ix2 a j)) := by
  unfold k0_pay22
  simp only [pointwise, half_tanh]

theorem not_one_256 : ¬(256 = 1) := by decide
theorem not_one_2048 : ¬(2048 = 1) := by decide

theorem norm_apply (ya yb ga gb : Vec Ideal S256x2048 .f32) (half : Ideal .f32) (w : Vec Ideal S2048x2048 .bf16) (x : Vec Ideal S256x2048 .f32)
    (g b : Vec Ideal S1x2048 .f32) (a : Fin 256) (j : Fin 2048) :
    k0_pay23 ya yb ga gb half w x g b (ix2 a j)
      = norm (fun j => Ideal.ofBits .f32 1066940400#32 * x (ix2 a j)
            + ∑ k : Fin 2048, (ga (ix2 a k) * ya (ix2 a k) + (gb (ix2 a k) + half) * yb (ix2 a k)) * w (ix2 k j))
          (fun j => g (ix2 0 j)) (fun j => b (ix2 0 j)) j := by
  unfold k0_pay23
  simp only [pointwise, not_one_256, not_one_2048, dite_false, dite_true, zero_add]
  rfl

theorem origin : (![0, 0] : Fin 2 → Nat) = fun _ => 0 := funext fun a => by fin_cases a <;> rfl

theorem ld_gates (x : Vec Ideal S256x4096 .bf16) (o : Nat) (h) (ho : o + 2048 ≤ 4096) (a : Fin 256) (j : Fin 2048) :
    View.ld x (Rect.unit (s := S256x4096) ![0, o] S256x2048.size h) (ix2 a j) = x (ix2 a ⟨o + j.val, by omega⟩) := by
  refine congrArg x (funext fun d => Fin.ext ?_)
  fin_cases d
  · show 0 + 1 * a.val = a.val
    omega
  · show o + 1 * j.val = o + j.val
    omega

/-- The block of the result from the blocks of the arguments. -/
theorem block_apply (x0 : Vec Ideal S256x1024 .bf16) (x1 : Vec Ideal S256x1024 .f32) (x2 x3 : Vec Ideal S256x1024 .bf16) (x4 : Vec Ideal S256x4096 .bf16)
    (x5 : Vec Ideal S256x2048 .f32) (x6 x7 : Vec Ideal S1x1024 .f32) (x8 x9 : Vec Ideal S1024x2048 .bf16) (x10 : Vec Ideal S2048x2048 .bf16)
    (x11 x12 : Vec Ideal S1x2048 .f32) (a : Fin 256) (j : Fin 2048) :
    k0_pay23 (k0_pay26 x0 x1 x2 x3 x4 x5 x6 x7 x8 x9 x10 x11 x12) (k0_pay27 x0 x1 x2 x3 x4 x5 x6 x7 x8 x9 x10 x11 x12)
        (k0_pay28 x0 x1 x2 x3 x4 x5 x6 x7 x8 x9 x10 x11 x12) (k0_pay29 x0 x1 x2 x3 x4 x5 x6 x7 x8 x9 x10 x11 x12)
        (Ideal.ofBits .f32 1056964608#32) x10 x5 x11 x12 (ix2 a j)
      = mixRow (fun k => x0 (ix2 a k)) (fun k => x1 (ix2 a k)) (fun k => x2 (ix2 a k)) (fun k => x3 (ix2 a k)) (fun k => x4 (ix2 a k)) (fun k => x5 (ix2 a k))
          (fun k => x6 (ix2 0 k)) (fun k => x7 (ix2 0 k)) (fun k j => x8 (ix2 k j)) (fun k j => x9 (ix2 k j)) (fun k j => x10 (ix2 k j))
          (fun k => x11 (ix2 0 k)) (fun k => x12 (ix2 0 k)) j := by
  rw [norm_apply, second_eq]
  unfold k0_pay26 k0_pay28 k0_pay29 mixRow
  refine congrArg (fun p => norm p _ _ j) (funext fun j => ?_)
  unfold pre
  simp only [project_apply, gate_apply, half_gate_apply, headsBlock_apply, ld_gates x4 0 _ (by omega), ld_gates x4 2048 _ (by omega), zero_add,
    View.ld_unit_zero (S := S256x1024) origin, View.ld_unit_zero (S := S1024x2048) origin]

section Result

variable (m : (ℓ : Loc nD τ sig) → Buf (Elt Ideal) ℓ)

/-! The arrays that the host prepares: casts and rows, over the reals the arguments themselves. -/

theorem row1024_apply (x : Vec Ideal S1024 .f32) (j : Fin 1024) : shapeCast S1x1024 x shapeCasts_S1024_S1x1024 (ix2 0 j) = x (ix1 j) := by
  simp only [pointwise]
theorem row2048_apply (x : Vec Ideal S2048 .f32) (j : Fin 2048) : shapeCast S1x2048 x shapeCasts_S2048_S1x2048 (ix2 0 j) = x (ix1 j) := by
  simp only [pointwise]

theorem V_wa (c : Dev nD) : (V m c main_v0 : Vec Ideal S1024x2048 .bf16) = m ((c : Thread nD τ).loc main_arg8) := by
  unfold V; after_results; rfl
theorem V_wb (c : Dev nD) : (V m c main_v1 : Vec Ideal S1024x2048 .bf16) = m ((c : Thread nD τ).loc main_arg9) := by
  unfold V; after_results; rfl
theorem V_wo (c : Dev nD) : (V m c main_v2 : Vec Ideal S2048x2048 .bf16) = m ((c : Thread nD τ).loc main_arg10) := by
  unfold V; after_results; rfl
theorem V_gw (c : Dev nD) (j : Fin 1024) : (V m c main_v3 : Vec Ideal S1x1024 .f32) (ix2 0 j) = m ((c : Thread nD τ).loc main_arg6) (ix1 j) := by
  unfold V; after_results
  exact row1024_apply _ j
theorem V_gb (c : Dev nD) (j : Fin 1024) : (V m c main_v4 : Vec Ideal S1x1024 .f32) (ix2 0 j) = m ((c : Thread nD τ).loc main_arg7) (ix1 j) := by
  unfold V; after_results
  exact row1024_apply _ j
theorem V_lw (c : Dev nD) (j : Fin 2048) : (V m c main_v5 : Vec Ideal S1x2048 .f32) (ix2 0 j) = m ((c : Thread nD τ).loc main_arg11) (ix1 j) := by
  unfold V; after_results
  exact row2048_apply _ j
theorem V_lb (c : Dev nD) (j : Fin 2048) : (V m c main_v6 : Vec Ideal S1x2048 .f32) (ix2 0 j) = m ((c : Thread nD τ).loc main_arg12) (ix1 j) := by
  unfold V; after_results
  exact row2048_apply _ j

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![0, 0] := by decide +kernel
theorem at_7 : ∀ t : Fin grid0.N, win0_7.index t = ![0, 0] := by decide +kernel
theorem at_8 : ∀ t : Fin grid0.N, win0_8.index t = ![0, 0] := by decide +kernel
theorem at_9 : ∀ t : Fin grid0.N, win0_9.index t = ![0, 0] := by decide +kernel
theorem at_10 : ∀ t : Fin grid0.N, win0_10.index t = ![0, 0] := by decide +kernel
theorem at_11 : ∀ t : Fin grid0.N, win0_11.index t = ![0, 0] := by decide +kernel
theorem at_12 : ∀ t : Fin grid0.N, win0_12.index t = ![0, 0] := by decide +kernel
theorem at_13 : ∀ t : Fin grid0.N, win0_13.index t = ![t.val, 0] := by decide +kernel
theorem at_14 : ∀ t : Fin grid0.N, win0_14.index t = ![t.val, 0] := by decide +kernel

theorem lt_points (t : Fin cfg0.N) : t.val < 64 := lt_of_lt_of_eq t.isLt N_0

/-- The row of the arrays that a row of a point's block is. -/
def row (t : Fin cfg0.N) (a : Fin 256) : Fin 16384 := ⟨256 * t.val + a.val, by have := lt_points t; omega⟩

theorem read_att (c : Dev nD) (t : Fin cfg0.N) (a : Fin 256) (k : Fin 1024) :
    iblk m c 0 t (ix2 a k) = m ((c : Thread nD τ).loc main_arg0) (ix2 (row t a) k) := by
  refine Eq.trans ?_ (congrFun (V_main_arg0 m c) _)
  blk_simp [iblk]
  refine congrArg (V m c main_arg0) ?_
  blk_ext [at_0, row]
theorem read_y (c : Dev nD) (t : Fin cfg0.N) (a : Fin 256) (k : Fin 1024) :
    iblk m c 1 t (ix2 a k) = m ((c : Thread nD τ).loc main_arg1) (ix2 (row t a) k) := by
  refine Eq.trans ?_ (congrFun (V_main_arg1 m c) _)
  blk_simp [iblk]
  refine congrArg (V m c main_arg1) ?_
  blk_ext [at_1, row]
theorem read_bon (c : Dev nD) (t : Fin cfg0.N) (a : Fin 256) (k : Fin 1024) :
    iblk m c 2 t (ix2 a k) = m ((c : Thread nD τ).loc main_arg2) (ix2 (row t a) k) := by
  refine Eq.trans ?_ (congrFun (V_main_arg2 m c) _)
  blk_simp [iblk]
  refine congrArg (V m c main_arg2) ?_
  blk_ext [at_2, row]
theorem read_g (c : Dev nD) (t : Fin cfg0.N) (a : Fin 256) (k : Fin 1024) :
    iblk m c 3 t (ix2 a k) = m ((c : Thread nD τ).loc main_arg3) (ix2 (row t a) k) := by
  refine Eq.trans ?_ (congrFun (V_main_arg3 m c) _)
  blk_simp [iblk]
  refine congrArg (V m c main_arg3) ?_
  blk_ext [at_3, row]
theorem read_gates (c : Dev nD) (t : Fin cfg0.N) (a : Fin 256) (k : Fin 4096) :
    iblk m c 4 t (ix2 a k) = m ((c : Thread nD τ).loc main_arg4) (ix2 (row t a) k) := by
  refine Eq.trans ?_ (congrFun (V_main_arg4 m c) _)
  blk_simp [iblk]
  refine congrArg (V m c main_arg4) ?_
  blk_ext [at_4, row]
theorem read_x (c : Dev nD) (t : Fin cfg0.N) (a : Fin 256) (k : Fin 2048) :
    iblk m c 5 t (ix2 a k) = m ((c : Thread nD τ).loc main_arg5) (ix2 (row t a) k) := by
  refine Eq.trans ?_ (congrFun (V_main_arg5 m c) _)
  blk_simp [iblk]
  refine congrArg (V m c main_arg5) ?_
  blk_ext [at_5, row]
theorem read_wa (c : Dev nD) (t : Fin cfg0.N) (k : Fin 1024) (j : Fin 2048) :
    iblk m c 8 t (ix2 k j) = m ((c : Thread nD τ).loc main_arg8) (ix2 k j) := by
  refine Eq.trans ?_ (congrFun (V_wa m c) _)
  blk_simp [iblk]
  refine congrArg (V m c main_v0) ?_
  blk_ext [at_8]
theorem read_wb (c : Dev nD) (t : Fin cfg0.N) (k : Fin 1024) (j : Fin 2048) :
    iblk m c 9 t (ix2 k j) = m ((c : Thread nD τ).loc main_arg9) (ix2 k j) := by
  refine Eq.trans ?_ (congrFun (V_wb m c) _)
  blk_simp [iblk]
  refine congrArg (V m c main_v1) ?_
  blk_ext [at_9]
theorem read_wo (c : Dev nD) (t : Fin cfg0.N) (k : Fin 2048) (j : Fin 2048) :
    iblk m c 10 t (ix2 k j) = m ((c : Thread nD τ).loc main_arg10) (ix2 k j) := by
  refine Eq.trans ?_ (congrFun (V_wo m c) _)
  blk_simp [iblk]
  refine congrArg (V m c main_v2) ?_
  blk_ext [at_10]
theorem read_gw (c : Dev nD) (t : Fin cfg0.N) (j : Fin 1024) :
    iblk m c 6 t (ix2 0 j) = m ((c : Thread nD τ).loc main_arg6) (ix1 j) := by
  refine Eq.trans ?_ (V_gw m c j)
  blk_simp [iblk]
  refine congrArg (V m c main_v3) ?_
  blk_ext [at_6]
theorem read_gb (c : Dev nD) (t : Fin cfg0.N) (j : Fin 1024) :
    iblk m c 7 t (ix2 0 j) = m ((c : Thread nD τ).loc main_arg7) (ix1 j) := by
  refine Eq.trans ?_ (V_gb m c j)
  blk_simp [iblk]
  refine congrArg (V m c main_v4) ?_
  blk_ext [at_7]
theorem read_lw (c : Dev nD) (t : Fin cfg0.N) (j : Fin 2048) :
    iblk m c 11 t (ix2 0 j) = m ((c : Thread nD τ).loc main_arg11) (ix1 j) := by
  refine Eq.trans ?_ (V_lw m c j)
  blk_simp [iblk]
  refine congrArg (V m c main_v5) ?_
  blk_ext [at_11]
theorem read_lb (c : Dev nD) (t : Fin cfg0.N) (j : Fin 2048) :
    iblk m c 12 t (ix2 0 j) = m ((c : Thread nD τ).loc main_arg12) (ix1 j) := by
  refine Eq.trans ?_ (V_lb m c j)
  blk_simp [iblk]
  refine congrArg (V m c main_v6) ?_
  blk_ext [at_12]

/-- The arguments' rows, as the result's row takes them. -/
theorem block_row (c : Dev nD) (t : Fin cfg0.N) (a : Fin 256) (j : Fin 2048) :
    k0_pay23 (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
        (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
        (Ideal.ofBits .f32 1056964608#32) (iblk m c 10 t) (iblk m c 5 t) (iblk m c 11 t) (iblk m c 12 t) (ix2 a j)
      = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (ix2 (row t a) j) := by
  refine (block_apply _ _ _ _ _ _ _ _ _ _ _ _ _ a j).trans ?_
  simp only [read_att, read_y, read_bon, read_g, read_gates, read_x, read_gw, read_gb, read_wa, read_wb, read_wo, read_lw, read_lb]
  rfl

theorem result_13 (c : Dev nD) : (dats m 0 c).arrAt 13 cfg0.N
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  blk_simp
  rw [after0_13]
  obtain ⟨a, j, rfl⟩ : ∃ (a : Fin 256) (j : Fin 2048), y = ix2 a j := ⟨y 0, y 1, by funext d; fin_cases d <;> rfl⟩
  have he : (win0_13.blk t).view.emb (ix2 a j) = ix2 (row t a) j := by
    blk_ext [at_13, row]
  unfold out0_13
  rw [View.canon_unit_zero origin]
  simp only [View.ld_unit_zero (S := S256x2048) origin, View.ld_unit_zero (S := S2048x2048) origin, View.ld_unit_zero (S := S1x2048) origin]
  exact (block_row m c t a j).trans (congrArg (mixed _ _ _ _ _ _ _ _ _ _ _ _ _) he).symm

theorem result_14 (c : Dev nD) : (dats m 0 c).arrAt 14 cfg0.N
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf y => ?_
  blk_simp
  rw [after0_14]
  obtain ⟨a, j, rfl⟩ : ∃ (a : Fin 256) (j : Fin 2048), y = ix2 a j := ⟨y 0, y 1, by funext d; fin_cases d <;> rfl⟩
  have he : (win0_14.blk t).view.emb (ix2 a j) = ix2 (row t a) j := by
    blk_ext [at_14, row]
  unfold out0_14
  rw [View.canon_unit_zero origin]
  simp only [View.ld_unit_zero (S := S256x2048) origin, View.ld_unit_zero (S := S2048x2048) origin, View.ld_unit_zero (S := S1x2048) origin]
  exact (block_row m c t a j).trans (congrArg (mixed _ _ _ _ _ _ _ _ _ _ _ _ _) he).symm

end Result

/-! ### The claims -/

theorem frame_kernel : Cert.quiescent_Kernel6 (hKernel6 := Cert.Kernel6.Gen.facts) := fun m ρ _ =>
  Cert.Kernel6.Gen.frame (F := Bits) m ρ

theorem frame_ideal : Cert.quiescent_Kernel6Ideal (hKernel6Ideal := Cert.Kernel6Ideal.Gen.facts) := fun m ρ _ =>
  Cert.Kernel6Ideal.Gen.frame (F := Ideal) m ρ

theorem frame_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem preserved : Cert.preserves_Kernel6_Kernel6Ideal := trivial

theorem same_rows : Cert.algebraic_Kernel6Ideal_Reference6Ideal (hKernel6Ideal := Cert.Kernel6Ideal.Gen.facts) (hReference6Ideal := Cert.Reference6Ideal.Gen.facts) := by
  intro m ρ m' ρ' _ hagree
  have same : ∀ c : Dev nD, mixed (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7)) (m' (c.tc.loc Cert.Reference6Ideal.main_arg8)) (m' (c.tc.loc Cert.Reference6Ideal.main_arg9)) (m' (c.tc.loc Cert.Reference6Ideal.main_arg10)) (m' (c.tc.loc Cert.Reference6Ideal.main_arg11)) (m' (c.tc.loc Cert.Reference6Ideal.main_arg12)) = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := fun c => by
    obtain ⟨h0, h1, h2, h3, h4, h5, h6, h7, h8, h9, h10, h11, h12⟩ := hagree c
    exact congr (congr (congr (congr (congr (congr (congr (congr (congr (congr (congr (congrArg₂ mixed h0 h1) h2) h3) h4) h5) h6) h7) h8) h9) h10) h11) h12
  refine ⟨_, _, run_blocks (F := Ideal) m ρ, ?_⟩
  refine (θ_run Cert.Reference6Ideal.defs _ _).mono (fun _ h c => ⟨(h c).1.trans ?_, (h c).2.1.trans ?_, (h c).2.2⟩) (Cert.Reference6Ideal.Value.run (F := Ideal) m' ρ')
  · rw [result_13, reference_mixed]
    exact same c
  · rw [result_14, reference_copy, reference_mixed]
    exact same c

end Cert.Proof.Mix

end
-- ==== Proof.PreRows.lean ====
/-
  What the time mixing is prepared from: rows blended with the row before them, low-rank products of the blended rows, and the
  decay's own function.
-/
module

public import proofs.«01_k».proof.Proof.Rows
public import proofs.«01_k».proof.Proof.Math

@[expose] public section

noncomputable section

namespace Cert.Proof.Pre

open Idealize.ShloMosaic Cert.Proof.Rows Cert.Proof.Sb
open scoped BigOperators

/-- A column's entry of the row before, zero before the first. -/
def prior (z : Fin 16384 → EReal) (n : Fin 16384) : EReal := if n.val = 0 then 0 else z ⟨n.val - 1, by omega⟩

/-- `v`, moved towards `p` by the share `mu`. -/
def lerp (v p mu : EReal) : EReal := v + (p - v) * mu

/-- A product with a matrix of low rank, with `f` between its factors. -/
def low {r : ℕ} (f : EReal → EReal) (x : Fin 1024 → EReal) (w1 : Fin 1024 → Fin r → EReal) (w2 : Fin r → Fin 1024 → EReal) (j : Fin 1024) : EReal :=
  ∑ k, f (∑ i, x i * w1 i k) * w2 k j

/-- The log of the decay. -/
def decay (z : EReal) : EReal := -Ideal.exp (-splus (-z) - Ideal.ofBits .f32 1056964608#32)

/-- Factors filled up with zeros have the same product, whatever stands between them. -/
theorem low_filled {r s : ℕ} (h : r ≤ s) (f : EReal → EReal) (x : Fin 1024 → EReal) (w1 : Fin 1024 → Fin r → EReal) (w2 : Fin r → Fin 1024 → EReal)
    (u1 : Fin 1024 → Fin s → EReal) (u2 : Fin s → Fin 1024 → EReal) (h1 : ∀ i k, u1 i (Fin.castLE h k) = w1 i k)
    (h2 : ∀ k j, u2 (Fin.castLE h k) j = w2 k j) (h3 : ∀ k j, r ≤ k.val → u2 k j = 0) (j : Fin 1024) : low f x u1 u2 j = low f x w1 w2 j := by
  obtain ⟨q, rfl⟩ := Nat.exists_eq_add_of_le h
  unfold low
  rw [Fin.sum_univ_add]
  have z : ∑ k : Fin q, f (∑ i, x i * u1 i (Fin.natAdd r k)) * u2 (Fin.natAdd r k) j = 0 :=
    Finset.sum_eq_zero fun k _ => by rw [h3 _ j (by simp), mul_zero]
  rw [z, add_zero]
  refine Finset.sum_congr rfl fun k _ => ?_
  have e : Fin.castAdd q k = Fin.castLE h k := rfl
  rw [e, h2]
  simp only [h1]

end Cert.Proof.Pre

end
-- ==== Proof.PreBlock.lean ====
/-
  The preparation's blocks: the rows of a block blended with the row before each, and the controls made of them.
-/
module

public import proofs.«01_k».proof.Proof.Gen.Kernel7Ideal.Value
public import proofs.«01_k».proof.Proof.PreRows
public import Idealize.ShloMosaic.Lib.Pointwise
public import Idealize.ShloMosaic.Lib.KernelVsHost

@[expose] public section

noncomputable section

namespace Cert.Proof.Pre

open Cert.Kernel7Ideal Cert.Kernel7Ideal.Gen Cert.Kernel7Ideal.Value Cert.Proof.Rows Cert.Proof.Sb
open Idealize.ShloMosaic Idealize.ShloMosaic.TcCoe Idealize.SL.Sem
open scoped BigOperators

/-- A block's rows before its rows: of the first row the row `p`, times `keep`. -/
def priorBlock (keep : Ideal .f32) (z : FVec Ideal S256x1024 .bf16) (p : FVec Ideal S1x1024 .bf16) : FVec Ideal S256x1024 .f32 :=
  select k0_pay1 (broadcastTo S256x1024 (shapeCast S1x1024 (mulf (extf .f32 p bitsLt_bf16_f32) (broadcast S1x1024 keep)) shapeCasts_S1x1024_S1x1024) broadcasts_S1x1024_S256x1024)
    (dynamicRotate 0 1#32 none (extf .f32 z bitsLt_bf16_f32) rotates_S256x1024_d0)

/-- A block's blended rows. -/
def lerpBlock (keep : Ideal .f32) (z : FVec Ideal S256x1024 .bf16) (p : FVec Ideal S1x1024 .bf16) (mu : FVec Ideal S1x1024 .f32) : FVec Ideal S256x1024 .f32 :=
  addf (extf .f32 z bitsLt_bf16_f32) (mulf (subf (priorBlock keep z p) (extf .f32 z bitsLt_bf16_f32)) (broadcastTo S256x1024 mu broadcasts_S1x1024_S256x1024))

theorem first_row : ∀ a : Fin 256, IntOp.cmpi .eq (BitVec.ofNat 32 a.val) 0#32 = if a.val = 0 then 1#1 else 0#1 := by decide +kernel

theorem not_one_256 : ¬(256 = 1) := by decide
theorem not_one_1024 : ¬(1024 = 1) := by decide

theorem rotated (z : FVec Ideal S256x1024 .f32) (a : Fin 256) (j : Fin 1024) (ha : a.val ≠ 0) :
    dynamicRotate 0 1#32 none z rotates_S256x1024_d0 (ix2 a j) = z (ix2 ⟨a.val - 1, by omega⟩ j) := by
  refine congrArg z (funext fun d => Fin.ext ?_)
  fin_cases d
  · show (a.val + 256 - (1 + 0) % 256) % 256 = a.val - 1
    omega
  · rfl

theorem priorBlock_apply (keep : Ideal .f32) (z : FVec Ideal S256x1024 .bf16) (p : FVec Ideal S1x1024 .bf16) (a : Fin 256) (j : Fin 1024) :
    priorBlock keep z p (ix2 a j) = if h : a.val = 0 then p (ix2 0 j) * keep else z (ix2 ⟨a.val - 1, by omega⟩ j) := by
  have e : k0_pay1 (ix2 a j) = IntOp.cmpi .eq (BitVec.ofNat 32 a.val) 0#32 := by
    unfold k0_pay1
    simp only [pointwise]
    show IntOp.cmpi .eq (BitVec.ofNat 32 (0 * 256 + a.val)) 0#32 = _
    rw [zero_mul, zero_add]
  have s : priorBlock keep z p (ix2 a j)
      = if k0_pay1 (ix2 a j) = 1#1 then broadcastTo S256x1024 (shapeCast S1x1024 (mulf (extf .f32 p bitsLt_bf16_f32) (broadcast S1x1024 keep)) shapeCasts_S1x1024_S1x1024) broadcasts_S1x1024_S256x1024 (ix2 a j)
        else dynamicRotate 0 1#32 none (extf .f32 z bitsLt_bf16_f32) rotates_S256x1024_d0 (ix2 a j) := rfl
  rw [s, e, first_row]
  by_cases h : a.val = 0
  · rw [if_pos h, if_pos rfl, dif_pos h]
    simp only [pointwise, not_one_256, not_one_1024, dite_false, dite_true]
    rfl
  · rw [if_neg h, if_neg (by decide), dif_neg h]
    exact rotated _ a j h

theorem lerpBlock_apply (keep : Ideal .f32) (z : FVec Ideal S256x1024 .bf16) (p : FVec Ideal S1x1024 .bf16) (mu : FVec Ideal S1x1024 .f32) (a : Fin 256) (j : Fin 1024) :
    lerpBlock keep z p mu (ix2 a j) = lerp (z (ix2 a j)) (priorBlock keep z p (ix2 a j)) (mu (ix2 0 j)) := by
  unfold lerpBlock lerp
  simp only [pointwise, not_one_256, not_one_1024, dite_false, dite_true]
  rfl

/-! ### The controls -/

theorem decay_apply (x : FVec Ideal S256x1024 .f32) (b : FVec Ideal S1x1024 .f32) (u1 : FVec Ideal S1024x128 .bf16) (u2 : FVec Ideal S128x1024 .bf16) (a : Fin 256) (j : Fin 1024) :
    k0_pay11 x b u1 u2 (ix2 a j)
      = decay (b (ix2 0 j) + low Ideal.tanh (fun i => x (ix2 a i)) (fun i k => u1 (ix2 i k)) (fun k j => u2 (ix2 k j)) j) := by
  unfold k0_pay11 decay splus low
  simp only [pointwise, not_one_256, not_one_1024, dite_false, dite_true, zero_add, zero_sub]
  rfl

theorem rate_apply (x : FVec Ideal S256x1024 .f32) (b : FVec Ideal S1x1024 .f32) (u1 : FVec Ideal S1024x128 .bf16) (u2 : FVec Ideal S128x1024 .bf16) (a : Fin 256) (j : Fin 1024) :
    k0_pay13 x (k0_pay12 b) u1 u2 (ix2 a j)
      = gate (b (ix2 0 j) + low (fun z => z) (fun i => x (ix2 a i)) (fun i k => u1 (ix2 i k)) (fun k j => u2 (ix2 k j)) j) := by
  unfold k0_pay13 k0_pay12 low
  simp only [pointwise, not_one_256, not_one_1024, dite_false, dite_true, zero_add, half_tanh]
  rfl

theorem control_apply (x : FVec Ideal S256x1024 .f32) (u1 : FVec Ideal S1024x256 .bf16) (u2 : FVec Ideal S256x1024 .bf16) (a : Fin 256) (j : Fin 1024) :
    k0_pay14 x u1 u2 (ix2 a j) = low gate (fun i => x (ix2 a i)) (fun i k => u1 (ix2 i k)) (fun k j => u2 (ix2 k j)) j := by
  unfold k0_pay14 low
  simp only [pointwise, zero_add, half_tanh]

/-! ### The payloads are these blocks -/

theorem pay3_eq (i : grid0.Coords) (z : FVec Ideal S256x1024 .bf16) (p : FVec Ideal S1x1024 .bf16) (mu : FVec Ideal S1x1024 .f32) :
    k0_pay3 i z p mu = truncf .bf16 (lerpBlock (k0_pay2 (F := Ideal) i) z p mu) bitsLt_bf16_f32 := rfl
theorem pay4_eq (i : grid0.Coords) (z : FVec Ideal S256x1024 .bf16) (p : FVec Ideal S1x1024 .bf16) (mu : FVec Ideal S1x1024 .f32) :
    k0_pay4 i z p mu = truncf .bf16 (lerpBlock (k0_pay2 (F := Ideal) i) z p mu) bitsLt_bf16_f32 := rfl
theorem pay5_eq (keep : Ideal .f32) (z : FVec Ideal S256x1024 .bf16) (p : FVec Ideal S1x1024 .bf16) (mu : FVec Ideal S1x1024 .f32) :
    k0_pay5 k0_pay1 keep z p mu = truncf .bf16 (lerpBlock keep z p mu) bitsLt_bf16_f32 := rfl
theorem pay8_eq (keep : Ideal .f32) (z : FVec Ideal S256x1024 .bf16) (p : FVec Ideal S1x1024 .bf16) (mu : FVec Ideal S1x1024 .f32) :
    k0_pay8 k0_pay1 keep z p mu = lerpBlock keep z p mu := rfl
theorem pay9_eq (keep : Ideal .f32) (z : FVec Ideal S256x1024 .bf16) (p : FVec Ideal S1x1024 .bf16) (mu : FVec Ideal S1x1024 .f32) :
    k0_pay9 k0_pay1 keep z p mu = lerpBlock keep z p mu := rfl
theorem pay10_eq (keep : Ideal .f32) (z : FVec Ideal S256x1024 .bf16) (p : FVec Ideal S1x1024 .bf16) (mu : FVec Ideal S1x1024 .f32) :
    k0_pay10 (k0_pay6 z) (k0_pay7 k0_pay1 keep z p) mu = lerpBlock keep z p mu := rfl

/-! ### The matrices filled up with zeros -/

/-- A zero of the host's. -/
def zero : FVec Ideal S_ .f32 := sitofp .f32 (constantI S_ 32 0#32)

theorem zero_apply (i : S_.Idx) : zero i = 0 := by
  show ((((0#32 : BitVec 32).toInt : ℝ)) : EReal) = 0
  simp

theorem wide64 (w : FVec Ideal S1024x64 .f32) (i : Fin 1024) (k : Fin 64) :
    pad S1024x128 ![0, 0] ![0, 64] ![0, 0] w zero pads_S1024x64_S1024x128_000_0640 h_S_ (ix2 i (Fin.castLE (by decide) k)) = w (ix2 i k) :=
  pad_apply_of_inside _ _ _ w _ _ _ _ _ fun a => by
    fin_cases a
    · show i.val = 0 + i.val * (0 + 1)
      omega
    · show k.val = 0 + k.val * (0 + 1)
      omega

theorem wide160 (w : FVec Ideal S1024x160 .f32) (i : Fin 1024) (k : Fin 160) :
    pad S1024x256 ![0, 0] ![0, 96] ![0, 0] w zero pads_S1024x160_S1024x256_000_0960 h_S_ (ix2 i (Fin.castLE (by decide) k)) = w (ix2 i k) :=
  pad_apply_of_inside _ _ _ w _ _ _ _ _ fun a => by
    fin_cases a
    · show i.val = 0 + i.val * (0 + 1)
      omega
    · show k.val = 0 + k.val * (0 + 1)
      omega

theorem tall64 (w : FVec Ideal S64x1024 .f32) (k : Fin 64) (j : Fin 1024) :
    pad S128x1024 ![0, 0] ![64, 0] ![0, 0] w zero pads_S64x1024_S128x1024_0640_000 h_S_ (ix2 (Fin.castLE (by decide) k) j) = w (ix2 k j) :=
  pad_apply_of_inside _ _ _ w _ _ _ _ _ fun a => by
    fin_cases a
    · show k.val = 0 + k.val * (0 + 1)
      omega
    · show j.val = 0 + j.val * (0 + 1)
      omega

theorem tall160 (w : FVec Ideal S160x1024 .f32) (k : Fin 160) (j : Fin 1024) :
    pad S256x1024 ![0, 0] ![96, 0] ![0, 0] w zero pads_S160x1024_S256x1024_0960_000 h_S_ (ix2 (Fin.castLE (by decide) k) j) = w (ix2 k j) :=
  pad_apply_of_inside _ _ _ w _ _ _ _ _ fun a => by
    fin_cases a
    · show k.val = 0 + k.val * (0 + 1)
      omega
    · show j.val = 0 + j.val * (0 + 1)
      omega

theorem below64 (w : FVec Ideal S64x1024 .f32) (k : Fin 128) (j : Fin 1024) (hk : 64 ≤ k.val) :
    pad S128x1024 ![0, 0] ![64, 0] ![0, 0] w zero pads_S64x1024_S128x1024_0640_000 h_S_ (ix2 k j) = 0 := by
  refine (pad_apply_of_not_inside _ _ _ w _ _ _ _ (0 : Fin 2) ?_).trans (zero_apply _)
  rintro ⟨-, -, h⟩
  have h' : (k.val - 0) / (0 + 1) < 64 := h
  omega

theorem below160 (w : FVec Ideal S160x1024 .f32) (k : Fin 256) (j : Fin 1024) (hk : 160 ≤ k.val) :
    pad S256x1024 ![0, 0] ![96, 0] ![0, 0] w zero pads_S160x1024_S256x1024_0960_000 h_S_ (ix2 k j) = 0 := by
  refine (pad_apply_of_not_inside _ _ _ w _ _ _ _ (0 : Fin 2) ?_).trans (zero_apply _)
  rintro ⟨-, -, h⟩
  have h' : (k.val - 0) / (0 + 1) < 160 := h
  omega

end Cert.Proof.Pre

end
-- ==== Proof.PreReference.lean ====
/-
  The reference's preparation of the time mixing: its blended rows, its decay, its learning rate and its gate.
-/
module

public import proofs.«01_k».proof.Defs
public import proofs.«01_k».proof.Proof.Gen.Reference7Ideal.Run
public import proofs.«01_k».proof.Proof.PreRows
public import Idealize.ShloMosaic.Lib.Pointwise
public import Idealize.ShloMosaic.Lib.KernelVsHost

@[expose] public section

noncomputable section

namespace Cert.Proof.PreReference

open Cert.Reference7Ideal Cert.Reference7Ideal.Gen Cert.Reference7Ideal.Value Cert.Proof.Rows Cert.Proof.Pre Cert.Proof.Sb
open Idealize.ShloMosaic Idealize.ShloMosaic.TcCoe Idealize.SL.Sem
open scoped BigOperators

/-! The reference's arrays, part by part. -/

def stepOf (z : FVec Ideal S16384x4096 .f32) : FVec Ideal S16384x4096 .f32 :=
  subf (extractStridedSlice S16384x4096 ![0, 0] (pad S16385x4096 ![1, 0] ![0, 0] ![0, 0] z (sitofp .f32 (constantI S_ 32 0#32)) pads_S16384x4096_S16385x4096_100_000 h_S_) slices_S16385x4096_S16384x4096_0_0) z

def rowOf (b : FVec Ideal S1024 .f32) : FVec Ideal S16384x1024 .f32 :=
  broadcastInDim S16384x1024 ![0, 1] bcast_S1x1024_S16384x1024_0_1 (broadcastInDim S1x1024 ![1] bcast_S1024_S1x1024_1 b)

def lerpOf (z d : FVec Ideal S16384x1024 .f32) (mu : FVec Ideal S1x1024 .f32) : FVec Ideal S16384x1024 .f32 :=
  addf z (mulf d (broadcastInDim S16384x1024 ![0, 1] bcast_S1x1024_S16384x1024_0_1 mu))

def nought : FVec Ideal S16384x1024 .f32 := broadcastInDim S16384x1024 ![] bcast_S_S16384x1024 (constant S_ .f32 0x00000000#32)

def splusOf (x : FVec Ideal S16384x1024 .f32) : FVec Ideal S16384x1024 .f32 :=
  select (cmpf .une (subf x nought) (subf x nought)) (addf x nought)
    (addf (maximumf x nought) (Host.log1p (Host.exp (Host.negf (Host.absf (subf x nought))))))

def decayOf (z : FVec Ideal S16384x1024 .f32) : FVec Ideal S16384x1024 .f32 :=
  Host.negf (Host.exp (subf (Host.negf (splusOf (Host.negf z))) (broadcastInDim S16384x1024 ![] bcast_S_S16384x1024 (constant S_ .f32 0x3F000000#32))))

def innerOf (x : FVec Ideal S16384x1024 .f32) (w : FVec Ideal S1024x64 .f32) : FVec Ideal S16384x64 .f32 :=
  Host.dotGeneral dot_S16384x1024_S1024x64_S16384x64_1_0_0_1_n_n none x w

def outerOf (x : FVec Ideal S16384x64 .f32) (w : FVec Ideal S64x1024 .f32) : FVec Ideal S16384x1024 .f32 :=
  Host.dotGeneral dot_S16384x64_S64x1024_S16384x1024_1_0_0_1_n_n none x w

def gateOf (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

def gatedOf (x : FVec Ideal S16384x1024 .f32) (w1 : FVec Ideal S1024x160 .f32) (w2 : FVec Ideal S160x1024 .f32) : FVec Ideal S16384x1024 .f32 :=
  Host.dotGeneral dot_S16384x160_S160x1024_S16384x1024_1_0_0_1_n_n none (Host.divf (broadcastInDim S16384x160 ![] bcast_S_S16384x160 (constant S_ .f32 0x3F800000#32)) (addf (broadcastInDim S16384x160 ![] bcast_S_S16384x160 (constant S_ .f32 0x3F800000#32)) (Host.exp (Host.negf (Host.dotGeneral dot_S16384x1024_S1024x160_S16384x160_1_0_0_1_n_n none x w1))))) w2

theorem not_one_16384 : ¬(16384 = 1) := by decide
theorem not_one_1024 : ¬(1024 = 1) := by decide

theorem stepOf_apply (z : FVec Ideal S16384x4096 .f32) (n : Fin 16384) (j : Fin 4096) :
    stepOf z (ix2 n j) = prior (fun n => z (ix2 n j)) n - z (ix2 n j) := by
  refine congrArg (fun p => p - z (ix2 n j)) ?_
  unfold prior
  by_cases hn : n.val = 0
  · rw [if_pos hn]
    refine (pad_apply_of_not_inside _ _ _ z _ _ _ _ (0 : Fin 2) ?_).trans ?_
    · rintro ⟨h, -⟩
      have h' : 1 ≤ 0 + n.val := h
      omega
    · show ((((0#32 : BitVec 32).toInt : ℝ)) : EReal) = 0
      simp
  · rw [if_neg hn]
    refine pad_apply_of_inside _ _ _ z _ _ _ _ (ix2 ⟨n.val - 1, by omega⟩ j) fun a => ?_
    fin_cases a
    · show 0 + n.val = 1 + (n.val - 1) * (0 + 1)
      omega
    · show 0 + j.val = 0 + j.val * (0 + 1)
      omega

theorem rowOf_apply (b : FVec Ideal S1024 .f32) (n : Fin 16384) (j : Fin 1024) : rowOf b (ix2 n j) = b (ix1 j) := by
  unfold rowOf
  simp only [pointwise, not_one_16384, not_one_1024, dite_false, dite_true]
  rfl

theorem lerpOf_apply (z d : FVec Ideal S16384x1024 .f32) (mu : FVec Ideal S1x1024 .f32) (n : Fin 16384) (j : Fin 1024) :
    lerpOf z d mu (ix2 n j) = z (ix2 n j) + d (ix2 n j) * mu (ix2 0 j) := by
  unfold lerpOf
  simp only [pointwise, not_one_16384, not_one_1024, dite_false, dite_true]
  rfl

theorem decayOf_apply (z : FVec Ideal S16384x1024 .f32) (i : S16384x1024.Idx) : decayOf z i = decay (z i) := by
  unfold decayOf splusOf nought decay splus
  simp only [pointwise]
  rw [if_neg (fun h => h rfl), sub_zero, zero_sub]
  rfl

theorem innerOf_apply (x : FVec Ideal S16384x1024 .f32) (w : FVec Ideal S1024x64 .f32) (n : Fin 16384) (k : Fin 64) :
    innerOf x w (ix2 n k) = ∑ i : Fin 1024, x (ix2 n i) * w (ix2 i k) := by
  unfold innerOf
  simp only [pointwise, zero_add]

theorem outerOf_apply (x : FVec Ideal S16384x64 .f32) (w : FVec Ideal S64x1024 .f32) (n : Fin 16384) (j : Fin 1024) :
    outerOf x w (ix2 n j) = ∑ k : Fin 64, x (ix2 n k) * w (ix2 k j) := by
  unfold outerOf
  simp only [pointwise, zero_add]

theorem gateOf_apply (z : FVec Ideal S16384x1024 .f32) (i : S16384x1024.Idx) : gateOf z i = gate (z i) := by
  unfold gateOf gate
  simp only [pointwise]

theorem gatedOf_apply (x : FVec Ideal S16384x1024 .f32) (w1 : FVec Ideal S1024x160 .f32) (w2 : FVec Ideal S160x1024 .f32) (n : Fin 16384) (j : Fin 1024) :
    gatedOf x w1 w2 (ix2 n j) = low gate (fun i => x (ix2 n i)) (fun i k => w1 (ix2 i k)) (fun k j => w2 (ix2 k j)) j := by
  unfold gatedOf low gate
  simp only [pointwise, zero_add]

/-- The rows of one part of the input, blended with the rows before them. -/
def blended (X : FVec Ideal S16384x4096 .bf16) (M : FVec Ideal S6x1024 .f32) (o : ℕ) (ho : o + 1024 ≤ 4096) (p : Fin 6) (n : Fin 16384) (j : Fin 1024) : EReal :=
  lerp (X (ix2 n ⟨o + j.val, by omega⟩)) (prior (fun n => X (ix2 n ⟨o + j.val, by omega⟩)) n) (M (ix2 p j))

/-! The results' arrays from the arguments' arrays. -/

def shiftOf (X : FVec Ideal S16384x4096 .bf16) (M : FVec Ideal S6x1024 .f32) (o : ℕ) (ho : o + 1024 ≤ 4096) (p : Fin 6) : FVec Ideal S16384x1024 .bf16 := fun i =>
  blended X M o ho p ⟨(i 0).val, (i 0).isLt⟩ ⟨(i 1).val, (i 1).isLt⟩

def decays (X : FVec Ideal S16384x4096 .bf16) (M : FVec Ideal S6x1024 .f32) (b : FVec Ideal S1024 .f32) (w1 : FVec Ideal S1024x64 .f32)
    (w2 : FVec Ideal S64x1024 .f32) : FVec Ideal S16384x1024 .f32 := fun i =>
  decay (b (ix1 ⟨(i 1).val, (i 1).isLt⟩)
    + low Ideal.tanh (blended X M 3072 (by decide) 3 ⟨(i 0).val, (i 0).isLt⟩) (fun i k => w1 (ix2 i k)) (fun k j => w2 (ix2 k j)) ⟨(i 1).val, (i 1).isLt⟩)

def rates (X : FVec Ideal S16384x4096 .bf16) (M : FVec Ideal S6x1024 .f32) (b : FVec Ideal S1024 .f32) (w1 : FVec Ideal S1024x64 .f32)
    (w2 : FVec Ideal S64x1024 .f32) : FVec Ideal S16384x1024 .bf16 := fun i =>
  gate (b (ix1 ⟨(i 1).val, (i 1).isLt⟩)
    + low (fun z => z) (blended X M 3072 (by decide) 4 ⟨(i 0).val, (i 0).isLt⟩) (fun i k => w1 (ix2 i k)) (fun k j => w2 (ix2 k j)) ⟨(i 1).val, (i 1).isLt⟩)

def controls (X : FVec Ideal S16384x4096 .bf16) (M : FVec Ideal S6x1024 .f32) (w1 : FVec Ideal S1024x160 .f32)
    (w2 : FVec Ideal S160x1024 .f32) : FVec Ideal S16384x1024 .bf16 := fun i =>
  low gate (blended X M 3072 (by decide) 5 ⟨(i 0).val, (i 0).isLt⟩) (fun i k => w1 (ix2 i k)) (fun k j => w2 (ix2 k j)) ⟨(i 1).val, (i 1).isLt⟩

theorem part_apply (z : FVec Ideal S16384x4096 .f32) (o : ℕ) (ho : o + 1024 ≤ 4096) (h : S16384x4096.Slices ![0, o] S16384x1024) (n : Fin 16384) (j : Fin 1024) :
    extractStridedSlice S16384x1024 ![0, o] z h (ix2 n j) = z (ix2 n ⟨o + j.val, by omega⟩) := by
  refine congrArg z (funext fun d => Fin.ext ?_)
  fin_cases d
  · show 0 + n.val = n.val
    omega
  · rfl

theorem share_apply (M : FVec Ideal S6x1024 .f32) (p : ℕ) (hp : p < 6) (h : S6x1024.Slices ![p, 0] S1x1024) (j : Fin 1024) :
    extractStridedSlice S1x1024 ![p, 0] M h (ix2 0 j) = M (ix2 ⟨p, hp⟩ j) := by
  refine congrArg M (funext fun d => Fin.ext ?_)
  fin_cases d
  · rfl
  · show 0 + j.val = j.val
    omega

theorem blend_apply (X : FVec Ideal S16384x4096 .bf16) (M : FVec Ideal S6x1024 .f32) (o : ℕ) (ho : o + 1024 ≤ 4096) (p : ℕ) (hp : p < 6)
    (h : S16384x4096.Slices ![0, o] S16384x1024) (h' : S6x1024.Slices ![p, 0] S1x1024) (n : Fin 16384) (j : Fin 1024) :
    lerpOf (extractStridedSlice S16384x1024 ![0, o] (extf .f32 X bitsLt_bf16_f32) h) (extractStridedSlice S16384x1024 ![0, o] (stepOf (extf .f32 X bitsLt_bf16_f32)) h) (extractStridedSlice S1x1024 ![p, 0] M h') (ix2 n j)
      = blended X M o ho ⟨p, hp⟩ n j := by
  rw [lerpOf_apply, share_apply M p hp, part_apply _ o ho, part_apply _ o ho, stepOf_apply]
  rfl

theorem shift_eq (X : FVec Ideal S16384x4096 .bf16) (M : FVec Ideal S6x1024 .f32) (o : ℕ) (ho : o + 1024 ≤ 4096) (p : ℕ) (hp : p < 6)
    (h : S16384x4096.Slices ![0, o] S16384x1024) (h' : S6x1024.Slices ![p, 0] S1x1024) :
    truncf .bf16 (lerpOf (extractStridedSlice S16384x1024 ![0, o] (extf .f32 X bitsLt_bf16_f32) h) (extractStridedSlice S16384x1024 ![0, o] (stepOf (extf .f32 X bitsLt_bf16_f32)) h) (extractStridedSlice S1x1024 ![p, 0] M h')) bitsLt_bf16_f32
      = shiftOf X M o ho ⟨p, hp⟩ := by
  funext i
  obtain ⟨n, j, rfl⟩ : ∃ (n : Fin 16384) (j : Fin 1024), i = ix2 n j := ⟨i 0, i 1, by funext d; fin_cases d <;> rfl⟩
  exact blend_apply X M o ho p hp h h' n j

/-- The blended rows of the controls' part. -/
def blendOf (X : FVec Ideal S16384x4096 .bf16) (mu : FVec Ideal S1x1024 .f32) : FVec Ideal S16384x1024 .f32 :=
  lerpOf (extractStridedSlice S16384x1024 ![0, 3072] (extf .f32 X bitsLt_bf16_f32) slices_S16384x4096_S16384x1024_0_3072)
    (extractStridedSlice S16384x1024 ![0, 3072] (stepOf (extf .f32 X bitsLt_bf16_f32)) slices_S16384x4096_S16384x1024_0_3072) mu

theorem decays_eq (X : FVec Ideal S16384x4096 .bf16) (M : FVec Ideal S6x1024 .f32) (b : FVec Ideal S1024 .f32) (w1 : FVec Ideal S1024x64 .f32) (w2 : FVec Ideal S64x1024 .f32) :
    decayOf (addf (rowOf b) (outerOf (Host.tanh (innerOf (blendOf X (extractStridedSlice S1x1024 ![3, 0] M slices_S6x1024_S1x1024_3_0)) w1)) w2)) = decays X M b w1 w2 := by
  funext i
  obtain ⟨n, j, rfl⟩ : ∃ (n : Fin 16384) (j : Fin 1024), i = ix2 n j := ⟨i 0, i 1, by funext d; fin_cases d <;> rfl⟩
  rw [decayOf_apply]
  unfold blendOf
  simp only [pointwise, rowOf_apply, outerOf_apply, innerOf_apply, blend_apply X M 3072 (by decide) 3 (by decide)]
  rfl

theorem rates_eq (X : FVec Ideal S16384x4096 .bf16) (M : FVec Ideal S6x1024 .f32) (b : FVec Ideal S1024 .f32) (w1 : FVec Ideal S1024x64 .f32) (w2 : FVec Ideal S64x1024 .f32) :
    truncf .bf16 (gateOf (addf (rowOf b) (outerOf (innerOf (blendOf X (extractStridedSlice S1x1024 ![4, 0] M slices_S6x1024_S1x1024_4_0)) w1) w2))) bitsLt_bf16_f32 = rates X M b w1 w2 := by
  funext i
  obtain ⟨n, j, rfl⟩ : ∃ (n : Fin 16384) (j : Fin 1024), i = ix2 n j := ⟨i 0, i 1, by funext d; fin_cases d <;> rfl⟩
  unfold blendOf
  simp only [pointwise, gateOf_apply, rowOf_apply, outerOf_apply, innerOf_apply, blend_apply X M 3072 (by decide) 4 (by decide)]
  rfl

theorem controls_eq (X : FVec Ideal S16384x4096 .bf16) (M : FVec Ideal S6x1024 .f32) (w1 : FVec Ideal S1024x160 .f32) (w2 : FVec Ideal S160x1024 .f32) :
    truncf .bf16 (gatedOf (blendOf X (extractStridedSlice S1x1024 ![5, 0] M slices_S6x1024_S1x1024_5_0)) w1 w2) bitsLt_bf16_f32 = controls X M w1 w2 := by
  funext i
  obtain ⟨n, j, rfl⟩ : ∃ (n : Fin 16384) (j : Fin 1024), i = ix2 n j := ⟨i 0, i 1, by funext d; fin_cases d <;> rfl⟩
  unfold blendOf
  simp only [pointwise, gatedOf_apply, blend_apply X M 3072 (by decide) 5 (by decide)]
  rfl

variable (m : (ℓ : Loc nD τ sig) → Buf (Elt Ideal) ℓ) (c : Dev nD)

theorem reference_decays : res_main_v48 (F := Ideal) m c
    = decays (m (c.tc.loc main_arg0)) (m (c.tc.loc main_arg1)) (m (c.tc.loc main_arg2)) (m (c.tc.loc main_arg3)) (m (c.tc.loc main_arg4)) :=
  Eq.trans (by unfold res_main_v48 decayOf splusOf nought rowOf outerOf innerOf blendOf lerpOf stepOf; rfl) (decays_eq _ _ _ _ _)

end Cert.Proof.PreReference

end
-- ==== Proof.Pre.lean ====
/-
  The preparation of the time mixing: its rows blended with the rows before them, its decay, its learning rate and its gate.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.PreBlock
public import proofs.«01_k».proof.Proof.PreReference
public import Idealize.ShloMosaic.Lib.Pointwise
public import Idealize.ShloMosaic.Lib.Pipeline.ValueKit.Geometry
public import Idealize.ShloMosaic.Lib.Quiescent

@[expose] public section

noncomputable section

namespace Cert.Proof.Pre

open Cert.Kernel7Ideal Cert.Kernel7Ideal.Gen Cert.Kernel7Ideal.Value Cert.Proof.Rows
open Cert.Proof.PreReference (blended shiftOf decays rates controls shift_eq rates_eq controls_eq reference_decays)
open Idealize.ShloMosaic Idealize.ShloMosaic.TcCoe Idealize.SL.Sem
open scoped BigOperators

theorem origin : (![0, 0] : Fin 2 → Nat) = fun _ => 0 := funext fun a => by fin_cases a <;> rfl

theorem ld_rows (x : Vec Ideal S256x4096 .bf16) (o : Nat) (h) (ho : o + 1024 ≤ 4096) (a : Fin 256) (j : Fin 1024) :
    View.ld x (Rect.unit (s := S256x4096) ![0, o] S256x1024.size h) (ix2 a j) = x (ix2 a ⟨o + j.val, by omega⟩) := by
  refine congrArg x (funext fun d => Fin.ext ?_)
  fin_cases d
  · show 0 + 1 * a.val = a.val
    omega
  · show o + 1 * j.val = o + j.val
    omega

theorem ld_last (x : Vec Ideal S16x4096 .bf16) (o : Nat) (h) (ho : o + 1024 ≤ 4096) (j : Fin 1024) :
    View.ld x (Rect.unit (s := S16x4096) ![15, o] S1x1024.size h) (ix2 0 j) = x (ix2 15 ⟨o + j.val, by omega⟩) := by
  refine congrArg x (funext fun d => Fin.ext ?_)
  fin_cases d
  · rfl
  · show o + 1 * j.val = o + j.val
    omega

theorem ld_share (x : Vec Ideal S6x1024 .f32) (p : Nat) (h) (hp : p < 6) (j : Fin 1024) :
    View.ld x (Rect.unit (s := S6x1024) ![p, 0] S1x1024.size h) (ix2 0 j) = x (ix2 ⟨p, hp⟩ j) := by
  refine congrArg x (funext fun d => Fin.ext ?_)
  fin_cases d
  · show p + 1 * 0 = p
    omega
  · show 0 + 1 * j.val = j.val
    omega

section Result

variable (m : (ℓ : Loc nD τ sig) → Buf (Elt Ideal) ℓ)

/-! The arrays that the host prepares: matrices filled up with zeros, and rows. -/

theorem row_apply (x : Vec Ideal S1024 .f32) (j : Fin 1024) : shapeCast S1x1024 x shapeCasts_S1024_S1x1024 (ix2 0 j) = x (ix1 j) := by
  simp only [pointwise]

theorem V_1 (c : Dev nD) : (V m c main_v1 : Vec Ideal S1024x128 .bf16)
    = truncf (F := Ideal) .bf16 (pad S1024x128 ![0, 0] ![0, 64] ![0, 0] (m ((c : Thread nD τ).loc main_arg3)) zero pads_S1024x64_S1024x128_000_0640 h_S_ : FVec Ideal S1024x128 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_3 (c : Dev nD) : (V m c main_v3 : Vec Ideal S128x1024 .bf16)
    = truncf (F := Ideal) .bf16 (pad S128x1024 ![0, 0] ![64, 0] ![0, 0] (m ((c : Thread nD τ).loc main_arg4)) zero pads_S64x1024_S128x1024_0640_000 h_S_ : FVec Ideal S128x1024 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_5 (c : Dev nD) : (V m c main_v5 : Vec Ideal S1024x128 .bf16)
    = truncf (F := Ideal) .bf16 (pad S1024x128 ![0, 0] ![0, 64] ![0, 0] (m ((c : Thread nD τ).loc main_arg6)) zero pads_S1024x64_S1024x128_000_0640 h_S_ : FVec Ideal S1024x128 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_7 (c : Dev nD) : (V m c main_v7 : Vec Ideal S128x1024 .bf16)
    = truncf (F := Ideal) .bf16 (pad S128x1024 ![0, 0] ![64, 0] ![0, 0] (m ((c : Thread nD τ).loc main_arg7)) zero pads_S64x1024_S128x1024_0640_000 h_S_ : FVec Ideal S128x1024 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_9 (c : Dev nD) : (V m c main_v9 : Vec Ideal S1024x256 .bf16)
    = truncf (F := Ideal) .bf16 (pad S1024x256 ![0, 0] ![0, 96] ![0, 0] (m ((c : Thread nD τ).loc main_arg8)) zero pads_S1024x160_S1024x256_000_0960 h_S_ : FVec Ideal S1024x256 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_11 (c : Dev nD) : (V m c main_v11 : Vec Ideal S256x1024 .bf16)
    = truncf (F := Ideal) .bf16 (pad S256x1024 ![0, 0] ![96, 0] ![0, 0] (m ((c : Thread nD τ).loc main_arg9)) zero pads_S160x1024_S256x1024_0960_000 h_S_ : FVec Ideal S256x1024 .f32) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  rfl
theorem V_12 (c : Dev nD) (j : Fin 1024) : (V m c main_v12 : Vec Ideal S1x1024 .f32) (ix2 0 j) = m ((c : Thread nD τ).loc main_arg2) (ix1 j) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  exact row_apply _ j
theorem V_13 (c : Dev nD) (j : Fin 1024) : (V m c main_v13 : Vec Ideal S1x1024 .f32) (ix2 0 j) = m ((c : Thread nD τ).loc main_arg5) (ix1 j) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.unary, StableHlo.TRef.binary, StableHlo.TRef.toBuf, StableHlo.TRef.ofBuf, cast_eq]
  after_results
  exact row_apply _ j

theorem at_0 : ∀ t : Fin grid0.N, win0_0.index t = ![t.val, 0] := by decide +kernel
theorem at_1 : ∀ t : Fin grid0.N, win0_1.index t = ![16 * t.val - 1, 0] := by decide +kernel
theorem at_2 : ∀ t : Fin grid0.N, win0_2.index t = ![0, 0] := by decide +kernel
theorem at_3 : ∀ t : Fin grid0.N, win0_3.index t = ![0, 0] := by decide +kernel
theorem at_4 : ∀ t : Fin grid0.N, win0_4.index t = ![0, 0] := by decide +kernel
theorem at_5 : ∀ t : Fin grid0.N, win0_5.index t = ![0, 0] := by decide +kernel
theorem at_6 : ∀ t : Fin grid0.N, win0_6.index t = ![0, 0] := by decide +kernel
theorem at_7 : ∀ t : Fin grid0.N, win0_7.index t = ![0, 0] := by decide +kernel
theorem at_8 : ∀ t : Fin grid0.N, win0_8.index t = ![0, 0] := by decide +kernel
theorem at_9 : ∀ t : Fin grid0.N, win0_9.index t = ![0, 0] := by decide +kernel
theorem at_10 : ∀ t : Fin grid0.N, win0_10.index t = ![0, 0] := by decide +kernel
theorem at_11 : ∀ t : Fin grid0.N, win0_11.index t = ![t.val, 0] := by decide +kernel
theorem at_12 : ∀ t : Fin grid0.N, win0_12.index t = ![t.val, 0] := by decide +kernel
theorem at_13 : ∀ t : Fin grid0.N, win0_13.index t = ![t.val, 0] := by decide +kernel
theorem at_14 : ∀ t : Fin grid0.N, win0_14.index t = ![t.val, 0] := by decide +kernel
theorem at_15 : ∀ t : Fin grid0.N, win0_15.index t = ![t.val, 0] := by decide +kernel
theorem at_16 : ∀ t : Fin grid0.N, win0_16.index t = ![t.val, 0] := by decide +kernel

theorem lt_points (t : Fin cfg0.N) : t.val < 64 := lt_of_lt_of_eq t.isLt N_0

/-- The row of the arrays that a row of a point's block is. -/
def row (t : Fin cfg0.N) (a : Fin 256) : Fin 16384 := ⟨256 * t.val + a.val, by have := lt_points t; omega⟩

/-- The row before a point's block; of the first point, another. -/
def edge (t : Fin cfg0.N) : Fin 16384 := ⟨16 * (16 * t.val - 1) + 15, by have := lt_points t; omega⟩

theorem read_rows (c : Dev nD) (t : Fin cfg0.N) (a : Fin 256) (k : Fin 4096) :
    iblk m c 0 t (ix2 a k) = m ((c : Thread nD τ).loc main_arg0) (ix2 (row t a) k) := by
  refine Eq.trans ?_ (congrFun (V_main_arg0 m c) _)
  blk_simp [iblk]
  refine congrArg (V m c main_arg0) ?_
  blk_ext [at_0, row]
theorem read_edge (c : Dev nD) (t : Fin cfg0.N) (k : Fin 4096) :
    iblk m c 1 t (ix2 15 k) = m ((c : Thread nD τ).loc main_arg0) (ix2 (edge t) k) := by
  refine Eq.trans ?_ (congrFun (V_main_arg0 m c) _)
  blk_simp [iblk]
  refine congrArg (V m c main_arg0) ?_
  blk_ext [at_1, edge]
theorem read_share (c : Dev nD) (t : Fin cfg0.N) (p : Fin 6) (k : Fin 1024) :
    iblk m c 2 t (ix2 p k) = m ((c : Thread nD τ).loc main_arg1) (ix2 p k) := by
  refine Eq.trans ?_ (congrFun (V_main_arg1 m c) _)
  blk_simp [iblk]
  refine congrArg (V m c main_arg1) ?_
  blk_ext [at_2]
theorem read_w0 (c : Dev nD) (t : Fin cfg0.N) (j : Fin 1024) :
    iblk m c 3 t (ix2 0 j) = m ((c : Thread nD τ).loc main_arg2) (ix1 j) := by
  refine Eq.trans ?_ (V_12 m c j)
  blk_simp [iblk]
  refine congrArg (V m c main_v12) ?_
  blk_ext [at_3]
theorem read_a0 (c : Dev nD) (t : Fin cfg0.N) (j : Fin 1024) :
    iblk m c 6 t (ix2 0 j) = m ((c : Thread nD τ).loc main_arg5) (ix1 j) := by
  refine Eq.trans ?_ (V_13 m c j)
  blk_simp [iblk]
  refine congrArg (V m c main_v13) ?_
  blk_ext [at_6]
theorem read_w1 (c : Dev nD) (t : Fin cfg0.N) (k : Fin 1024) (j : Fin 128) :
    iblk m c 4 t (ix2 k j) = pad S1024x128 ![0, 0] ![0, 64] ![0, 0] (m ((c : Thread nD τ).loc main_arg3)) zero pads_S1024x64_S1024x128_000_0640 h_S_ (ix2 k j) := by
  refine Eq.trans ?_ (congrFun (V_1 m c) _)
  blk_simp [iblk]
  refine congrArg (V m c main_v1) ?_
  blk_ext [at_4]
theorem read_w2 (c : Dev nD) (t : Fin cfg0.N) (k : Fin 128) (j : Fin 1024) :
    iblk m c 5 t (ix2 k j) = pad S128x1024 ![0, 0] ![64, 0] ![0, 0] (m ((c : Thread nD τ).loc main_arg4)) zero pads_S64x1024_S128x1024_0640_000 h_S_ (ix2 k j) := by
  refine Eq.trans ?_ (congrFun (V_3 m c) _)
  blk_simp [iblk]
  refine congrArg (V m c main_v3) ?_
  blk_ext [at_5]
theorem read_a1 (c : Dev nD) (t : Fin cfg0.N) (k : Fin 1024) (j : Fin 128) :
    iblk m c 7 t (ix2 k j) = pad S1024x128 ![0, 0] ![0, 64] ![0, 0] (m ((c : Thread nD τ).loc main_arg6)) zero pads_S1024x64_S1024x128_000_0640 h_S_ (ix2 k j) := by
  refine Eq.trans ?_ (congrFun (V_5 m c) _)
  blk_simp [iblk]
  refine congrArg (V m c main_v5) ?_
  blk_ext [at_7]
theorem read_a2 (c : Dev nD) (t : Fin cfg0.N) (k : Fin 128) (j : Fin 1024) :
    iblk m c 8 t (ix2 k j) = pad S128x1024 ![0, 0] ![64, 0] ![0, 0] (m ((c : Thread nD τ).loc main_arg7)) zero pads_S64x1024_S128x1024_0640_000 h_S_ (ix2 k j) := by
  refine Eq.trans ?_ (congrFun (V_7 m c) _)
  blk_simp [iblk]
  refine congrArg (V m c main_v7) ?_
  blk_ext [at_8]
theorem read_g1 (c : Dev nD) (t : Fin cfg0.N) (k : Fin 1024) (j : Fin 256) :
    iblk m c 9 t (ix2 k j) = pad S1024x256 ![0, 0] ![0, 96] ![0, 0] (m ((c : Thread nD τ).loc main_arg8)) zero pads_S1024x160_S1024x256_000_0960 h_S_ (ix2 k j) := by
  refine Eq.trans ?_ (congrFun (V_9 m c) _)
  blk_simp [iblk]
  refine congrArg (V m c main_v9) ?_
  blk_ext [at_9]
theorem read_g2 (c : Dev nD) (t : Fin cfg0.N) (k : Fin 256) (j : Fin 1024) :
    iblk m c 10 t (ix2 k j) = pad S256x1024 ![0, 0] ![96, 0] ![0, 0] (m ((c : Thread nD τ).loc main_arg9)) zero pads_S160x1024_S256x1024_0960_000 h_S_ (ix2 k j) := by
  refine Eq.trans ?_ (congrFun (V_11 m c) _)
  blk_simp [iblk]
  refine congrArg (V m c main_v11) ?_
  blk_ext [at_10]

/-! ### The blended rows -/

theorem first_point : ∀ t : Fin grid0.N, Scalar.cmpi .eq (BitVec.ofNat 32 (grid0.coords t 0).val) 0#32 = if t.val = 0 then 1#1 else 0#1 := by decide +kernel

theorem one_eq : Ideal.ofBits .f32 0x3F800000#32 = 1 := by
  simp [Ideal.ofBits, Ideal.ieee, -EReal.coe_mul]; norm_num

theorem keep_eq (t : Fin cfg0.N) : k0_pay2 (F := Ideal) (grid0.coords t) = if t.val = 0 then (0 : EReal) else 1 := by
  have e : k0_pay2 (F := Ideal) (grid0.coords t)
      = if Scalar.cmpi .eq (BitVec.ofNat 32 (grid0.coords t 0).val) 0#32 = 1#1 then Ideal.ofBits .f32 0x00000000#32 else Ideal.ofBits .f32 0x3F800000#32 := rfl
  rw [e, first_point, one_eq]
  by_cases h : t.val = 0
  · rw [if_pos h, if_pos rfl, if_pos h]
    simp [Ideal.ofBits, Ideal.ieee]
  · rw [if_neg h, if_neg (by decide), if_neg h]

theorem block_blend (c : Dev nD) (t : Fin cfg0.N) (o p : Nat) (ho : o + 1024 ≤ 4096) (hp : p < 6) (h h' h'') (a : Fin 256) (j : Fin 1024) :
    lerpBlock (k0_pay2 (F := Ideal) (grid0.coords t)) (View.ld (iblk m c 0 t) (Rect.unit (s := S256x4096) ![0, o] S256x1024.size h))
        (View.ld (iblk m c 1 t) (Rect.unit (s := S16x4096) ![15, o] S1x1024.size h')) (View.ld (iblk m c 2 t) (Rect.unit (s := S6x1024) ![p, 0] S1x1024.size h'')) (ix2 a j)
      = blended (m ((c : Thread nD τ).loc main_arg0)) (m ((c : Thread nD τ).loc main_arg1)) o ho ⟨p, hp⟩ (row t a) j := by
  rw [lerpBlock_apply, priorBlock_apply, ld_last _ o h' ho, ld_rows _ o h ho, ld_rows _ o h ho, ld_share _ p h'' hp, read_edge, read_rows, read_rows, read_share, keep_eq]
  refine congrArg (fun q => lerp _ q _) ?_
  unfold prior
  by_cases ha : a.val = 0
  · rw [dif_pos ha]
    by_cases ht : t.val = 0
    · rw [if_pos ht, mul_zero, if_pos (by show 256 * t.val + a.val = 0; omega)]
    · rw [if_neg ht, mul_one, if_neg (by show ¬(256 * t.val + a.val = 0); omega)]
      refine congrArg (fun n => m ((c : Thread nD τ).loc main_arg0) (ix2 n _)) (Fin.ext ?_)
      show 16 * (16 * t.val - 1) + 15 = 256 * t.val + a.val - 1
      omega
  · rw [dif_neg ha, if_neg (by show ¬(256 * t.val + a.val = 0); omega)]
    refine congrArg (fun n => m ((c : Thread nD τ).loc main_arg0) (ix2 n _)) (Fin.ext ?_)
    show 256 * t.val + (a.val - 1) = 256 * t.val + a.val - 1
    omega

/-! ### The results' arrays -/

theorem result_11 (c : Dev nD) : (dats m 0 c).arrAt 11 cfg0.N
    = shiftOf (m ((c : Thread nD τ).loc main_arg0)) (m ((c : Thread nD τ).loc main_arg1)) 0 (by decide) 0 := by
  refine (dats m 0 c).arrAt_eq_of_covers 11 _ (by decide +kernel) fun t hf y => ?_
  blk_simp
  rw [after0_11]
  obtain ⟨a, j, rfl⟩ : ∃ (a : Fin 256) (j : Fin 1024), y = ix2 a j := ⟨y 0, y 1, by funext d; fin_cases d <;> rfl⟩
  have he : (win0_11.blk t).view.emb (ix2 a j) = ix2 (row t a) j := by
    blk_ext [at_11, row]
  unfold out0_11
  rw [View.canon_unit_zero origin]
  refine Eq.trans ?_ (congrArg (shiftOf (m ((c : Thread nD τ).loc main_arg0)) (m ((c : Thread nD τ).loc main_arg1)) 0 (by decide) 0) he).symm
  exact block_blend m c t 0 0 (by decide) (by decide) _ _ _ a j

theorem result_12 (c : Dev nD) : (dats m 0 c).arrAt 12 cfg0.N
    = shiftOf (m ((c : Thread nD τ).loc main_arg0)) (m ((c : Thread nD τ).loc main_arg1)) 1024 (by decide) 1 := by
  refine (dats m 0 c).arrAt_eq_of_covers 12 _ (by decide +kernel) fun t hf y => ?_
  blk_simp
  rw [after0_12]
  obtain ⟨a, j, rfl⟩ : ∃ (a : Fin 256) (j : Fin 1024), y = ix2 a j := ⟨y 0, y 1, by funext d; fin_cases d <;> rfl⟩
  have he : (win0_12.blk t).view.emb (ix2 a j) = ix2 (row t a) j := by
    blk_ext [at_12, row]
  unfold out0_12
  rw [View.canon_unit_zero origin]
  refine Eq.trans ?_ (congrArg (shiftOf (m ((c : Thread nD τ).loc main_arg0)) (m ((c : Thread nD τ).loc main_arg1)) 1024 (by decide) 1) he).symm
  exact block_blend m c t 1024 1 (by decide) (by decide) _ _ _ a j

theorem result_13 (c : Dev nD) : (dats m 0 c).arrAt 13 cfg0.N
    = shiftOf (m ((c : Thread nD τ).loc main_arg0)) (m ((c : Thread nD τ).loc main_arg1)) 2048 (by decide) 2 := by
  refine (dats m 0 c).arrAt_eq_of_covers 13 _ (by decide +kernel) fun t hf y => ?_
  blk_simp
  rw [after0_13]
  obtain ⟨a, j, rfl⟩ : ∃ (a : Fin 256) (j : Fin 1024), y = ix2 a j := ⟨y 0, y 1, by funext d; fin_cases d <;> rfl⟩
  have he : (win0_13.blk t).view.emb (ix2 a j) = ix2 (row t a) j := by
    blk_ext [at_13, row]
  unfold out0_13
  rw [View.canon_unit_zero origin]
  refine Eq.trans ?_ (congrArg (shiftOf (m ((c : Thread nD τ).loc main_arg0)) (m ((c : Thread nD τ).loc main_arg1)) 2048 (by decide) 2) he).symm
  exact block_blend m c t 2048 2 (by decide) (by decide) _ _ _ a j

theorem result_14 (c : Dev nD) : (dats m 0 c).arrAt 14 cfg0.N
    = decays (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  blk_simp
  rw [after0_14]
  obtain ⟨a, j, rfl⟩ : ∃ (a : Fin 256) (j : Fin 1024), y = ix2 a j := ⟨y 0, y 1, by funext d; fin_cases d <;> rfl⟩
  have he : (win0_14.blk t).view.emb (ix2 a j) = ix2 (row t a) j := by
    blk_ext [at_14, row]
  unfold out0_14
  rw [View.canon_unit_zero origin]
  simp only [View.ld_unit_zero (S := S1x1024) origin, View.ld_unit_zero (S := S1024x128) origin, View.ld_unit_zero (S := S128x1024) origin]
  refine Eq.trans ?_ (congrArg (decays (m ((c : Thread nD τ).loc main_arg0)) (m ((c : Thread nD τ).loc main_arg1)) (m ((c : Thread nD τ).loc main_arg2)) (m ((c : Thread nD τ).loc main_arg3)) (m ((c : Thread nD τ).loc main_arg4))) he).symm
  refine (decay_apply _ _ _ _ a j).trans ?_
  refine congrArg decay (congrArg₂ (fun u v : EReal => u + v) (read_w0 m c t j) ?_)
  refine (congrArg (fun x => low _ x _ _ j) (funext fun i => block_blend m c t 3072 3 (by decide) (by decide) _ _ _ a i)).trans ?_
  exact low_filled (by decide) _ _ _ _ _ _ (fun i k => (read_w1 m c t i _).trans (wide64 _ i k)) (fun k j => (read_w2 m c t _ j).trans (tall64 _ k j))
    (fun k j hk => (read_w2 m c t k j).trans (below64 _ k j hk)) j

theorem result_15 (c : Dev nD) : (dats m 0 c).arrAt 15 cfg0.N
    = rates (m ((c : Thread nD τ).loc main_arg0)) (m ((c : Thread nD τ).loc main_arg1)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  obtain ⟨a, j, rfl⟩ : ∃ (a : Fin 256) (j : Fin 1024), y = ix2 a j := ⟨y 0, y 1, by funext d; fin_cases d <;> rfl⟩
  have he : (win0_15.blk t).view.emb (ix2 a j) = ix2 (row t a) j := by
    blk_ext [at_15, row]
  unfold out0_15
  rw [View.canon_unit_zero origin]
  simp only [View.ld_unit_zero (S := S1x1024) origin, View.ld_unit_zero (S := S1024x128) origin, View.ld_unit_zero (S := S128x1024) origin]
  refine Eq.trans ?_ (congrArg (rates (m ((c : Thread nD τ).loc main_arg0)) (m ((c : Thread nD τ).loc main_arg1)) (m ((c : Thread nD τ).loc main_arg5)) (m ((c : Thread nD τ).loc main_arg6)) (m ((c : Thread nD τ).loc main_arg7))) he).symm
  refine (rate_apply _ _ _ _ a j).trans ?_
  refine congrArg gate (congrArg₂ (fun u v : EReal => u + v) (read_a0 m c t j) ?_)
  refine (congrArg (fun x => low _ x _ _ j) (funext fun i => block_blend m c t 3072 4 (by decide) (by decide) _ _ _ a i)).trans ?_
  exact low_filled (by decide) _ _ _ _ _ _ (fun i k => (read_a1 m c t i _).trans (wide64 _ i k)) (fun k j => (read_a2 m c t _ j).trans (tall64 _ k j))
    (fun k j hk => (read_a2 m c t k j).trans (below64 _ k j hk)) j

theorem result_16 (c : Dev nD) : (dats m 0 c).arrAt 16 cfg0.N
    = controls (m ((c : Thread nD τ).loc main_arg0)) (m ((c : Thread nD τ).loc main_arg1)) (m ((c : Thread nD τ).loc main_arg8)) (m ((c : Thread nD τ).loc main_arg9)) := by
  refine (dats m 0 c).arrAt_eq_of_covers 16 _ (by decide +kernel) fun t hf y => ?_
  blk_simp
  rw [after0_16]
  obtain ⟨a, j, rfl⟩ : ∃ (a : Fin 256) (j : Fin 1024), y = ix2 a j := ⟨y 0, y 1, by funext d; fin_cases d <;> rfl⟩
  have he : (win0_16.blk t).view.emb (ix2 a j) = ix2 (row t a) j := by
    blk_ext [at_16, row]
  unfold out0_16
  rw [View.canon_unit_zero origin]
  simp only [View.ld_unit_zero (S := S1024x256) origin, View.ld_unit_zero (S := S256x1024) origin]
  refine Eq.trans ?_ (congrArg (controls (m ((c : Thread nD τ).loc main_arg0)) (m ((c : Thread nD τ).loc main_arg1)) (m ((c : Thread nD τ).loc main_arg8)) (m ((c : Thread nD τ).loc main_arg9))) he).symm
  refine (control_apply _ _ _ a j).trans ?_
  refine (congrArg (fun x => low _ x _ _ j) (funext fun i => block_blend m c t 3072 5 (by decide) (by decide) _ _ _ a i)).trans ?_
  exact low_filled (by decide) _ _ _ _ _ _ (fun i k => (read_g1 m c t i _).trans (wide160 _ i k)) (fun k j => (read_g2 m c t _ j).trans (tall160 _ k j))
    (fun k j hk => (read_g2 m c t k j).trans (below160 _ k j hk)) j

end Result

/-! ### The claims -/

theorem frame_kernel : Cert.quiescent_Kernel7 (hKernel7 := Cert.Kernel7.Gen.facts) := fun m ρ _ =>
  Cert.Kernel7.Gen.frame (F := Bits) m ρ

theorem frame_ideal : Cert.quiescent_Kernel7Ideal (hKernel7Ideal := Cert.Kernel7Ideal.Gen.facts) := fun m ρ _ =>
  Cert.Kernel7Ideal.Gen.frame (F := Ideal) m ρ

theorem frame_reference : Cert.quiescent_Reference7Ideal (hReference7Ideal := Cert.Reference7Ideal.Gen.facts) := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

theorem preserved : Cert.preserves_Kernel7_Kernel7Ideal := trivial

theorem same_controls : Cert.algebraic_Kernel7Ideal_Reference7Ideal (hKernel7Ideal := Cert.Kernel7Ideal.Gen.facts) (hReference7Ideal := Cert.Reference7Ideal.Gen.facts) := by
  intro m ρ m' ρ' _ hagree
  refine ⟨_, _, _, _, _, _, run_blocks (F := Ideal) m ρ, ?_⟩
  refine (θ_run Cert.Reference7Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference7Ideal.Value.run (F := Ideal) m' ρ')
  all_goals obtain ⟨h0, h1, h2, h3, h4, h5, h6, h7, h8, h9⟩ := hagree c
  · rw [result_11]
    exact (shift_eq _ _ 0 (by decide) 0 (by decide) _ _).trans (congrArg₂ (fun X M => shiftOf X M 0 (by decide) 0) h0 h1)
  · rw [result_12]
    exact (shift_eq _ _ 1024 (by decide) 1 (by decide) _ _).trans (congrArg₂ (fun X M => shiftOf X M 1024 (by decide) 1) h0 h1)
  · rw [result_13]
    exact (shift_eq _ _ 2048 (by decide) 2 (by decide) _ _).trans (congrArg₂ (fun X M => shiftOf X M 2048 (by decide) 2) h0 h1)
  · rw [result_14]
    exact (reference_decays m' c).trans (congr (congr (congr (congrArg₂ decays h0 h1) h2) h3) h4)
  · rw [result_15]
    exact (rates_eq _ _ _ _ _).trans (congr (congr (congr (congrArg₂ rates h0 h1) h5) h6) h7)
  · rw [result_16]
    exact (controls_eq _ _ _ _).trans (congr (congr (congrArg₂ controls h0 h1) h8) h9)

end Cert.Proof.Pre

end
-- ==== Proof.lean ====
/- The certificate: for the attention, the three projections, the last part, the mixing and the time mixing's
   preparation, the frames of the three programs, the kernel's own constants and casts, and the equality of the kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Init
public import proofs.«01_k».proof.Proof.Algebraic
public import proofs.«01_k».proof.Proof.Proj2
public import proofs.«01_k».proof.Proof.Proj3
public import proofs.«01_k».proof.Proof.Proj4
public import proofs.«01_k».proof.Proof.Final
public import proofs.«01_k».proof.Proof.Mix
public import proofs.«01_k».proof.Proof.Pre

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Sb.frame_kernel, Sb.frame_ideal, Sb.frame_reference,
  Proj2.frame_kernel, Proj2.frame_ideal, Proj2.frame_reference,
  Proj3.frame_kernel, Proj3.frame_ideal, Proj3.frame_reference,
  Proj4.frame_kernel, Proj4.frame_ideal, Proj4.frame_reference,
  Final.frame_kernel, Final.frame_ideal, Final.frame_reference,
  Mix.frame_kernel, Mix.frame_ideal, Mix.frame_reference,
  Pre.frame_kernel, Pre.frame_ideal, Pre.frame_reference,
  Sb.preserves_done, Sb.same_attention,
  Proj2.preserved, Proj2.same_columns,
  Proj3.preserved, Proj3.same_columns,
  Proj4.preserved, Proj4.same_columns,
  Final.preserved, Final.same_rows,
  Mix.preserved, Mix.same_rows,
  Pre.preserved, Pre.same_controls⟩

end Cert.Proof

end
